-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_sorted_finite : Cert.Pre_sorted_finite.Facts),
    quiescent_Kernel (hKernel := hKernel)
    ∧ quiescent_KernelIdeal (hKernelIdeal := hKernelIdeal)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_sorted_finite.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S319999 : Shape := ⟨1, ![319999]⟩

class Facts : Prop where
  bcast_S_S320000x128 : S_.BroadcastsInDim S320000x128 (![] : Fin 0 → Fin S320000x128.rank)
  bcast_S_S320000 : S_.BroadcastsInDim S320000 (![] : Fin 0 → Fin S320000.rank)
  bcast_S_S128x128 : S_.BroadcastsInDim S128x128 (![] : Fin 0 → Fin S128x128.rank)
  bcast_S_S128 : S_.BroadcastsInDim S128 (![] : Fin 0 → Fin S128.rank)
  bcast_S_S1x128 : S_.BroadcastsInDim S1x128 (![] : Fin 0 → Fin S1x128.rank)
  bcast_S_S1 : S_.BroadcastsInDim S1 (![] : Fin 0 → Fin S1.rank)
  slices_S320000_S319999_1 : S320000.Slices ![1] S319999
  slices_S320000_S319999_0 : S320000.Slices ![0] S319999

variable [Facts]

def fn_part1 {F : FTy → Type} [FloatOps F] (main_arg1 : IVec S320000 32) (main_v2 : IVec S320000x128 1) (main_v7 : IVec S320000 1) (main_v10 : IVec S128x128 1) (main_v13 : IVec S128 1) (main_v16 : IVec S1x128 1) (main_v17 : FVec F S1 .f32) : IVec S320000x128 1 × IVec S320000 1 × IVec S128x128 1 × IVec S128 1 × IVec S1x128 1 × IVec S1 1 × IVec S320000 1 × IVec S319999 1 :=
  let main_cst_5 : FVec F S_ .f32 := constant S_ .f32 0x7F800000#32
  let main_v18 : FVec F S1 .f32 := broadcastInDim S1 ![] bcast_S_S1 main_cst_5
  let main_v19 : IVec S1 1 := cmpf .olt main_v17 main_v18
  let main_c : IVec S_ 32 := constantI S_ 32 0#32
  let main_v20 : IVec S320000 32 := broadcastInDim S320000 ![] bcast_S_S320000 main_c
  let main_v21 : IVec S320000 1 := cmpi .sge main_arg1 main_v20
  let main_c_6 : IVec S_ 32 := constantI S_ 32 10000#32
  let main_v22 : IVec S320000 32 := broadcastInDim S320000 ![] bcast_S_S320000 main_c_6
  let main_v23 : IVec S320000 1 := cmpi .slt main_arg1 main_v22
  let main_v24 : IVec S320000 1 := andi main_v21 main_v23
  let main_v25 : IVec S319999 32 := (extractStridedSlice S319999 ![1] · slices_S320000_S319999_1) main_arg1
  let main_v26 : IVec S319999 32 := (extractStridedSlice S319999 ![0] · slices_S320000_S319999_0) main_arg1
  let main_v27 : IVec S319999 1 := cmpi .sge main_v25 main_v26
  (main_v2, main_v7, main_v10, main_v13, main_v16, main_v19, main_v24, main_v27)

def fn {F : FTy → Type} [FloatOps F] (main_arg0 : FVec F S320000x128 .f32) (main_arg1 : IVec S320000 32) (main_arg2 : FVec F S320000 .f32) (main_arg3 : FVec F S128x128 .f32) (main_arg4 : FVec F S128 .f32) (main_arg5 : FVec F S1x128 .f32) (main_arg6 : FVec F S1 .f32) (main_arg7 : FVec F S128 .f32) (main_arg8 : FVec F S128 .f32) : IVec S320000x128 1 × IVec S320000 1 × IVec S128x128 1 × IVec S128 1 × IVec S1x128 1 × IVec S1 1 × IVec S320000 1 × IVec S319999 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_cst_0 : FVec F S_ .f32 := constant S_ .f32 0x00000000#32
  let main_v3 : FVec F S320000 .f32 := broadcastInDim S320000 ![] bcast_S_S320000 main_cst_0
  let main_v4 : IVec S320000 1 := cmpf .oge main_arg2 main_v3
  let main_cst_1 : FVec F S_ .f32 := constant S_ .f32 0x7F800000#32
  let main_v5 : FVec F S320000 .f32 := broadcastInDim S320000 ![] bcast_S_S320000 main_cst_1
  let main_v6 : IVec S320000 1 := cmpf .olt main_arg2 main_v5
  let main_v7 : IVec S320000 1 := andi main_v4 main_v6
  let main_v8 : FVec F S128x128 .f32 := Host.absf main_arg3
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_v11 : FVec F S128 .f32 := Host.absf main_arg4
  let main_cst_3 : FVec F S_ .f32 := constant S_ .f32 0x7F800000#32
  let main_v12 : FVec F S128 .f32 := broadcastInDim S128 ![] bcast_S_S128 main_cst_3
  let main_v13 : IVec S128 1 := cmpf .olt main_v11 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  let main_v17 : FVec F S1 .f32 := Host.absf main_arg6
  fn_part1 (F := F) main_arg1 main_v2 main_v7 main_v10 main_v13 main_v16 main_v17
-- ==== Kernel.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S320000x1 : Shape := ⟨2, ![320000, 1]⟩
abbrev S128x1 : Shape := ⟨2, ![128, 1]⟩
abbrev S1x1 : Shape := ⟨2, ![1, 1]⟩
abbrev S_ : Shape := ⟨0, ![]⟩
abbrev S320000x384 : Shape := ⟨2, ![320000, 384]⟩
abbrev S640x128 : Shape := ⟨2, ![640, 128]⟩
abbrev S640x1 : Shape := ⟨2, ![640, 1]⟩
abbrev S640x384 : Shape := ⟨2, ![640, 384]⟩
abbrev S1x384 : Shape := ⟨2, ![1, 384]⟩
abbrev S639x384 : Shape := ⟨2, ![639, 384]⟩
abbrev S639x1 : Shape := ⟨2, ![639, 1]⟩
abbrev S2x384 : Shape := ⟨2, ![2, 384]⟩
abbrev S638x384 : Shape := ⟨2, ![638, 384]⟩
abbrev S2x1 : Shape := ⟨2, ![2, 1]⟩
abbrev S638x1 : Shape := ⟨2, ![638, 1]⟩
abbrev S4x384 : Shape := ⟨2, ![4, 384]⟩
abbrev S636x384 : Shape := ⟨2, ![636, 384]⟩
abbrev S4x1 : Shape := ⟨2, ![4, 1]⟩
abbrev S636x1 : Shape := ⟨2, ![636, 1]⟩
abbrev S8x384 : Shape := ⟨2, ![8, 384]⟩
abbrev S632x384 : Shape := ⟨2, ![632, 384]⟩
abbrev S8x1 : Shape := ⟨2, ![8, 1]⟩
abbrev S632x1 : Shape := ⟨2, ![632, 1]⟩
abbrev S16x384 : Shape := ⟨2, ![16, 384]⟩
abbrev S624x384 : Shape := ⟨2, ![624, 384]⟩
abbrev S16x1 : Shape := ⟨2, ![16, 1]⟩
abbrev S624x1 : Shape := ⟨2, ![624, 1]⟩
abbrev S32x384 : Shape := ⟨2, ![32, 384]⟩
abbrev S608x384 : Shape := ⟨2, ![608, 384]⟩
abbrev S32x1 : Shape := ⟨2, ![32, 1]⟩
abbrev S608x1 : Shape := ⟨2, ![608, 1]⟩
abbrev S64x384 : Shape := ⟨2, ![64, 384]⟩
abbrev S576x384 : Shape := ⟨2, ![576, 384]⟩
abbrev S64x1 : Shape := ⟨2, ![64, 1]⟩
abbrev S576x1 : Shape := ⟨2, ![576, 1]⟩
abbrev S128x384 : Shape := ⟨2, ![128, 384]⟩
abbrev S512x384 : Shape := ⟨2, ![512, 384]⟩
abbrev S512x1 : Shape := ⟨2, ![512, 1]⟩
abbrev S256x384 : Shape := ⟨2, ![256, 384]⟩
abbrev S384x384 : Shape := ⟨2, ![384, 384]⟩
abbrev S256x1 : Shape := ⟨2, ![256, 1]⟩
abbrev S384x1 : Shape := ⟨2, ![384, 1]⟩

abbrev nBuf : Space → Nat
  | .hbm => 47
  | .vmem => 35
  | .smem => 2
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S320000, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S128, .f32⟩
  | .hbm, ⟨8, _⟩ => ⟨S128, .f32⟩
  | .hbm, ⟨9, _⟩ => ⟨S320000x1, .i32⟩
  | .hbm, ⟨10, _⟩ => ⟨S320000x1, .f32⟩
  | .hbm, ⟨11, _⟩ => ⟨S128x128, .f32⟩
  | .hbm, ⟨12, _⟩ => ⟨S1x128, .f32⟩
  | .hbm, ⟨13, _⟩ => ⟨S128x1, .f32⟩
  | .hbm, ⟨14, _⟩ => ⟨S1x1, .f32⟩
  | .hbm, ⟨15, _⟩ => ⟨S1x128, .f32⟩
  | .hbm, ⟨16, _⟩ => ⟨S1x128, .f32⟩
  | .hbm, ⟨17, _⟩ => ⟨S128, .i32⟩
  | .hbm, ⟨18, _⟩ => ⟨S_, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S1x128, .i32⟩
  | .hbm, ⟨38, _⟩ => ⟨S128x128, .i32⟩
  | .hbm, ⟨39, _⟩ => ⟨S128x128, .i32⟩
  | .hbm, ⟨40, _⟩ => ⟨S128x128, .i1⟩
  | .hbm, ⟨41, _⟩ => ⟨S128x128, .f32⟩
  | .hbm, ⟨42, _⟩ => ⟨S320000x128, .f32⟩
  | .hbm, ⟨43, _⟩ => ⟨S320000x1, .f32⟩
  | .hbm, ⟨44, _⟩ => ⟨S320000x384, .f32⟩
  | .hbm, ⟨45, _⟩ => ⟨S320000x128, .f32⟩
  | .hbm, ⟨46, _⟩ => ⟨S320000x1, .f32⟩
  | .local _ .vmem, ⟨0, _⟩ => ⟨S640x128, .f32⟩
  | .local _ .vmem, ⟨1, _⟩ => ⟨S640x128, .f32⟩
  | .local _ .vmem, ⟨2, _⟩ => ⟨S640x1, .i32⟩
  | .local _ .vmem, ⟨3, _⟩ => ⟨S640x1, .i32⟩
  | .local _ .vmem, ⟨4, _⟩ => ⟨S640x1, .f32⟩
  | .local _ .vmem, ⟨5, _⟩ => ⟨S640x1, .f32⟩
  | .local _ .vmem, ⟨6, _⟩ => ⟨S128x128, .f32⟩
  | .local _ .vmem, ⟨7, _⟩ => ⟨S1x128, .f32⟩
  | .local _ .vmem, ⟨8, _⟩ => ⟨S128x1, .f32⟩
  | .local _ .vmem, ⟨9, _⟩ => ⟨S1x1, .f32⟩
  | .local _ .vmem, ⟨10, _⟩ => ⟨S640x128, .f32⟩
  | .local _ .vmem, ⟨11, _⟩ => ⟨S640x128, .f32⟩
  | .local _ .vmem, ⟨12, _⟩ => ⟨S640x1, .f32⟩
  | .local _ .vmem, ⟨13, _⟩ => ⟨S640x1, .f32⟩
  | .local _ .vmem, ⟨14, _⟩ => ⟨S640x384, .f32⟩
  | .local _ .vmem, ⟨15, _⟩ => ⟨S640x384, .f32⟩
  | .local _ .vmem, ⟨16, _⟩ => ⟨S1x384, .f32⟩
  | .local _ .vmem, ⟨17, _⟩ => ⟨S640x384, .f32⟩
  | .local _ .vmem, ⟨18, _⟩ => ⟨S640x384, .f32⟩
  | .local _ .vmem, ⟨19, _⟩ => ⟨S640x1, .i32⟩
  | .local _ .vmem, ⟨20, _⟩ => ⟨S640x1, .i32⟩
  | .local _ .vmem, ⟨21, _⟩ => ⟨S640x128, .f32⟩
  | .local _ .vmem, ⟨22, _⟩ => ⟨S640x128, .f32⟩
  | .local _ .vmem, ⟨23, _⟩ => ⟨S640x1, .f32⟩
  | .local _ .vmem, ⟨24, _⟩ => ⟨S640x1, .f32⟩
  | .local _ .vmem, ⟨25, _⟩ => ⟨S640x1, .f32⟩
  | .local _ .vmem, ⟨26, _⟩ => ⟨S640x1, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S640x128, .f32⟩
  | .local _ .vmem, ⟨31, _⟩ => ⟨S640x128, .f32⟩
  | .local _ .vmem, ⟨32, _⟩ => ⟨S640x1, .f32⟩
  | .local _ .vmem, ⟨33, _⟩ => ⟨S640x1, .f32⟩
  | .local _ .vmem, ⟨34, _⟩ => ⟨S1x384, .f32⟩
  | .local _ .smem, ⟨0, _⟩ => ⟨S1x1, .i32⟩
  | .local _ .smem, ⟨1, _⟩ => ⟨S1x1, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16_0 : Ref sig .tc := ⟨.hbm, 42, rfl⟩
abbrev main_v16_1 : Ref sig .tc := ⟨.hbm, 43, rfl⟩
abbrev main_v16_2 : Ref sig .tc := ⟨.hbm, 44, rfl⟩
abbrev main_v17_0 : Ref sig .tc := ⟨.hbm, 45, rfl⟩
abbrev main_v17_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_scratch1 : Ref sig .tc := ⟨.vmem, 34, rfl⟩
abbrev cc0_scratch0 : Ref sig .tc := ⟨.smem, 0, rfl⟩
abbrev cc1_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem8_1 : DmaSem sig := 30
abbrev cc1_sem9_0 : DmaSem sig := 31
abbrev cc1_sem9_1 : DmaSem sig := 32

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c499_i32 : BitVec 32 := 499#32
  let v0 : BitVec 32 := Scalar.subi c499_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c499_i32 : BitVec 32 := 499#32
  let v0 : BitVec 32 := Scalar.subi c499_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c499_i32 : BitVec 32 := 499#32
  let v0 : BitVec 32 := Scalar.subi c499_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c499_i32 : BitVec 32 := 499#32
  let v0 : BitVec 32 := Scalar.subi c499_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c499_i32 : BitVec 32 := 499#32
  let v0 : BitVec 32 := Scalar.subi c499_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c499_i32 : BitVec 32 := 499#32
  let v0 : BitVec 32 := Scalar.subi c499_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c499_i32 : BitVec 32 := 499#32
  let v0 : BitVec 32 := Scalar.subi c499_i32 arg0
  let c0_i32 : BitVec 32 := 0#32
  let c0_i32_0 : BitVec 32 := 0#32
  ![v0.toNat, c0_i32.toNat]

abbrev stage1_0 : Fin 2 → Memref sig .tc .vmem S640x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S640x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S640x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S640x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S640x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S640x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S640x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S128x1 : Shape := ⟨2, ![128, 1]⟩
abbrev S320000x1 : Shape := ⟨2, ![320000, 1]⟩
abbrev S1x1 : Shape := ⟨2, ![1, 1]⟩
abbrev S10000 : Shape := ⟨1, ![10000]⟩
abbrev S1x10000 : Shape := ⟨2, ![1, 10000]⟩
abbrev S320000x10000 : Shape := ⟨2, ![320000, 10000]⟩
abbrev S_ : Shape := ⟨0, ![]⟩
abbrev S10000x1 : Shape := ⟨2, ![10000, 1]⟩
abbrev S10000x128 : Shape := ⟨2, ![10000, 128]⟩
abbrev S320000x32x4 : Shape := ⟨3, ![320000, 32, 4]⟩
abbrev S320000x32 : Shape := ⟨2, ![320000, 32]⟩
abbrev S320000x32x1 : Shape := ⟨3, ![320000, 32, 1]⟩

abbrev nBuf : Space → Nat
  | .hbm => 172
  | .vmem => 0
  | .smem => 0
  | _ => 0

abbrev hbmTy0_0 (i : Nat) : BufTy := match i % 128 with
  | 0 => ⟨S320000x128, .f32⟩
  | 1 => ⟨S320000, .i32⟩
  | 2 => ⟨S320000, .f32⟩
  | 3 => ⟨S128x128, .f32⟩
  | 4 => ⟨S128, .f32⟩
  | 5 => ⟨S1x128, .f32⟩
  | 6 => ⟨S1, .f32⟩
  | 7 => ⟨S128, .f32⟩
  | 8 => ⟨S128, .f32⟩
  | 9 => ⟨S128x128, .f32⟩
  | 10 => ⟨S320000x128, .f32⟩
  | 11 => ⟨S1x128, .f32⟩
  | 12 => ⟨S320000x128, .f32⟩
  | 13 => ⟨S320000x128, .f32⟩
  | 14 => ⟨S128x1, .f32⟩
  | 15 => ⟨S320000x1, .f32⟩
  | 16 => ⟨S1x1, .f32⟩
  | 17 => ⟨S320000x1, .f32⟩
  | 18 => ⟨S320000x1, .f32⟩
  | 19 => ⟨S320000x1, .i32⟩
  | 20 => ⟨S10000, .i32⟩
  | 21 => ⟨S1x10000, .i32⟩
  | 22 => ⟨S320000x10000, .i32⟩
  | 23 => ⟨S320000x10000, .i32⟩
  | 24 => ⟨S320000x10000, .i1⟩
  | 25 => ⟨S_, .f32⟩
  | 26 => ⟨S_, .f32⟩
  | 27 => ⟨S320000x10000, .f32⟩
  | 28 => ⟨S320000x10000, .f32⟩
  | 29 => ⟨S320000x10000, .f32⟩
  | 30 => ⟨S_, .f32⟩
  | 31 => ⟨S10000, .f32⟩
  | 32 => ⟨S10000x1, .f32⟩
  | 33 => ⟨S10000x1, .f32⟩
  | 34 => ⟨S_, .f32⟩
  | 35 => ⟨S10000x1, .f32⟩
  | 36 => ⟨S10000x1, .i1⟩
  | 37 => ⟨S_, .f32⟩
  | 38 => ⟨S_, .f32⟩
  | 39 => ⟨S10000x1, .f32⟩
  | 40 => ⟨S10000x1, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x1, .f32⟩
  | 50 => ⟨S320000x1, .f32⟩
  | 51 => ⟨S320000x1, .f32⟩
  | 52 => ⟨S_, .f32⟩
  | 53 => ⟨S10000x1, .f32⟩
  | 54 => ⟨S320000x1, .i32⟩
  | 55 => ⟨S10000x1, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000x1, .f32⟩
  | 65 => ⟨S320000x1, .f32⟩
  | 66 => ⟨S320000x1, .f32⟩
  | 67 => ⟨S320000x1, .f32⟩
  | 68 => ⟨S_, .f32⟩
  | 69 => ⟨S10000x1, .f32⟩
  | 70 => ⟨S320000x1, .i32⟩
  | 71 => ⟨S10000x1, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x1, .f32⟩
  | 81 => ⟨S_, .f32⟩
  | 82 => ⟨S_, .f32⟩
  | 83 => ⟨S320000x1, .f32⟩
  | 84 => ⟨S320000x1, .f32⟩
  | 85 => ⟨S320000x1, .f32⟩
  | 86 => ⟨S320000x128, .f32⟩
  | 87 => ⟨S320000x128, .f32⟩
  | 88 => ⟨S_, .f32⟩
  | 89 => ⟨S10000x128, .f32⟩
  | 90 => ⟨S320000x1, .i32⟩
  | 91 => ⟨S10000x128, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x128, .f32⟩
  | 101 => ⟨S320000x128, .f32⟩
  | 102 => ⟨S320000x128, .f32⟩
  | 103 => ⟨S320000x128, .f32⟩
  | 104 => ⟨S320000x128, .f32⟩
  | 105 => ⟨S_, .f32⟩
  | 106 => ⟨S10000x128, .f32⟩
  | 107 => ⟨S320000x1, .i32⟩
  | 108 => ⟨S10000x128, .f32⟩
  | 109 => ⟨S_, .f32⟩
  | 110 => ⟨S10000x128, .f32⟩
  | 111 => ⟨S10000x128, .f32⟩
  | 112 => ⟨S10000x128, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x128, .f32⟩
  | 122 => ⟨S320000x128, .f32⟩
  | 123 => ⟨S320000x32x4, .f32⟩
  | 124 => ⟨S_, .f32⟩
  | 125 => ⟨S320000x32, .f32⟩
  | 126 => ⟨S320000x32x1, .f32⟩
  | 127 => ⟨S_, .f32⟩
  | _ => ⟨S320000x128, .f32⟩

abbrev hbmTy0_1 (i : Nat) : BufTy := match i % 128 with
  | 0 => ⟨S320000x32x1, .f32⟩
  | 1 => ⟨S320000x32x1, .f32⟩
  | 2 => ⟨S_, .i32⟩
  | 3 => ⟨S_, .f32⟩
  | 4 => ⟨S320000x32, .f32⟩
  | 5 => ⟨S320000x32x1, .f32⟩
  | 6 => ⟨S_, .f32⟩
  | 7 => ⟨S320000x32x1, .f32⟩
  | 8 => ⟨S320000x32x1, .f32⟩
  | 9 => ⟨S320000x32x4, .f32⟩
  | 10 => ⟨S320000x32x4, .f32⟩
  | 11 => ⟨S320000x32x4, .f32⟩
  | 12 => ⟨S_, .f32⟩
  | 13 => ⟨S_, .f32⟩
  | 14 => ⟨S_, .f32⟩
  | 15 => ⟨S_, .f32⟩
  | 16 => ⟨S320000x32, .f32⟩
  | 17 => ⟨S320000x32x1, .f32⟩
  | 18 => ⟨S320000x32x1, .f32⟩
  | 19 => ⟨S320000x32x1, .f32⟩
  | 20 => ⟨S_, .f32⟩
  | 21 => ⟨S_, .i1⟩
  | 22 => ⟨S_, .f32⟩
  | 23 => ⟨S_, .f32⟩
  | 24 => ⟨S320000x32x1, .f32⟩
  | 25 => ⟨S320000x32x1, .f32⟩
  | 26 => ⟨S320000x32x4, .f32⟩
  | 27 => ⟨S320000x32x4, .f32⟩
  | 28 => ⟨S_, .f32⟩
  | 29 => ⟨S320000x32x1, .f32⟩
  | 30 => ⟨S320000x32x1, .f32⟩
  | 31 => ⟨S320000x32x1, .f32⟩
  | 32 => ⟨S320000x32x4, .f32⟩
  | 33 => ⟨S320000x32x4, .f32⟩
  | 34 => ⟨S320000x128, .f32⟩
  | 35 => ⟨S1x128, .f32⟩
  | 36 => ⟨S320000x128, .f32⟩
  | 37 => ⟨S320000x128, .f32⟩
  | 38 => ⟨S1x128, .f32⟩
  | 39 => ⟨S320000x128, .f32⟩
  | 40 => ⟨S320000x128, .f32⟩
  | 41 => ⟨S_, .f32⟩
  | 42 => ⟨S320000x128, .f32⟩
  | 43 => ⟨S320000x128, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_call2_v0 : Ref sig .tc := ⟨.hbm, 82, rfl⟩
abbrev main_call2_v1 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_16 : Ref sig .tc := ⟨.hbm, 113, rfl⟩
abbrev main_v79 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_18 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_v91 : Ref sig .tc := ⟨.hbm, 129, rfl⟩
abbrev main_c_20 : Ref sig .tc := ⟨.hbm, 130, rfl⟩
abbrev main_call3_cst : Ref sig .tc := ⟨.hbm, 131, rfl⟩
abbrev main_call3_v0 : Ref sig .tc := ⟨.hbm, 132, rfl⟩
abbrev main_call3_v1 : Ref sig .tc := ⟨.hbm, 133, rfl⟩
abbrev main_call3_cst_0 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_v7 : Ref sig .tc := ⟨.hbm, 140, rfl⟩
abbrev main_call3_cst_1 : Ref sig .tc := ⟨.hbm, 141, rfl⟩
abbrev main_call3_v8 : Ref sig .tc := ⟨.hbm, 142, rfl⟩
abbrev main_call3_cst_2 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_v12 : Ref sig .tc := ⟨.hbm, 147, rfl⟩
abbrev main_call3_cst_3 : Ref sig .tc := ⟨.hbm, 148, rfl⟩
abbrev main_call3_v13 : Ref sig .tc := ⟨.hbm, 149, rfl⟩
abbrev main_call3_cst_4 : Ref sig .tc := ⟨.hbm, 150, rfl⟩
abbrev main_call3_call0_v0 : Ref sig .tc := ⟨.hbm, 151, rfl⟩
abbrev main_call3_call0_v1 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_cst_21 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_call4_cst : Ref sig .tc := ⟨.hbm, 169, rfl⟩
abbrev main_call4_v0 : Ref sig .tc := ⟨.hbm, 170, rfl⟩
abbrev main_v107 : Ref sig .tc := ⟨.hbm, 171, rfl⟩

abbrev nD : Nat := 1
abbrev τ : Topo := Topo.v7x

variable {F : FTy → Type} [FloatOps F]
-- ==== Proof.KI.FwdBody.lean ====
/-
  The body of the forward kernel (call 0), run once on any staging buffers: what it leaves in each result and in
  its two scratch buffers, as closed functions of what it was given.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp
public import Idealize.ShloMosaic.Lib.ValueIdxCore

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

/-- The segment number in the last row of a block of indices. -/
def lastIx (x1 : Vec F S640x1 .i32) : BitVec 32 := x1 (ix2 ⟨639, by decide⟩ ⟨0, by decide⟩)

/-- The block of `P`: the segmented running sums of the block's payload, plus the carried row where the carried
    segment number is the row's. -/
def fP (x0 : Vec F S640x128 .f32) (x1 : Vec F S640x1 .i32) (x2 : Vec F S640x1 .f32) (x3 : Vec F S128x128 .f32) (x4 : Vec F S1x128 .f32)
    (x5 : Vec F S128x1 .f32) (x6 : Vec F S1x1 .f32) (s0 : BitVec 32) (s1 : Vec F S1x384 .f32) : FVec F S640x384 .f32 :=
  let p11 := k0_pay11 (k0_pay6 x0 x3 x4 x5 x6 x2) (k0_pay7 x0 x3 x4 x5 x6 x2) (k0_pay8 x0 x3 x4 x5 x6) (k0_pay9 x0 x3 x4 x5 x6 x2) x1
  let p12 := k0_pay12 (k0_pay6 x0 x3 x4 x5 x6 x2) (k0_pay7 x0 x3 x4 x5 x6 x2) (k0_pay8 x0 x3 x4 x5 x6) (k0_pay9 x0 x3 x4 x5 x6 x2) x1
  k0_pay17 (k0_pay10 x1) (k0_pay14 (k0_pay10 x1) p11 p12 (k0_pay13 x1)) (k0_pay15 (k0_pay10 x1) p11 p12 (k0_pay13 x1))
    (k0_pay16 (k0_pay10 x1)) s0 s1

/-- The branch of the body on the grid coordinate: taken at the first point. -/
abbrev cond0 (i : grid0.Coords) : Prop := (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (fun t => by
    have ht : t.val < 500 := Nat.lt_of_lt_of_eq t.isLt N_0
    have e0 : (grid0.coords t 0).val = t.val / 1 % 500 := Pipeline.Grid.coords_val t 0 (by decide) rfl
    simp only [cond0, e0]
    word_cmp
   : ∀ t : Fin grid0.N, cond0 (grid0.coords t) ↔ t.val = 0)

set_option maxHeartbeats 1000000 in
/-- The body past its first point: from the carried segment number and row to the results and the next carry. -/
theorem fwd_run_B (c : Dev nD) (i : grid0.Coords) (arg1 : Memref sig .tc .vmem S640x128 .f32) (harg1 : arg1.IsWhole) (arg2 : Memref sig .tc .vmem S640x1 .i32) (harg2 : arg2.IsWhole) (arg3 : Memref sig .tc .vmem S640x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S640x128 .f32) (harg8 : arg8.IsWhole) (arg9 : Memref sig .tc .vmem S640x1 .f32) (harg9 : arg9.IsWhole) (arg10 : Memref sig .tc .vmem S640x384 .f32) (harg10 : arg10.IsWhole) (arg11 : Memref sig .tc .smem S1x1 .i32) (harg11 : arg11.IsWhole) (arg12 : Memref sig .tc .vmem S1x384 .f32) (harg12 : arg12.IsWhole) (hc0 : ¬cond0 i)
    (x0 : Vec F S640x128 .f32) (x1 : Vec F S640x1 .i32) (x2 : Vec F S640x1 .f32) (x3 : Vec F S128x128 .f32) (x4 : Vec F S1x128 .f32) (x5 : Vec F S128x1 .f32) (x6 : Vec F S1x1 .f32) (s0 : BitVec 32) (s1 : Vec F S1x384 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (fun _ => s0 : Vec F S1x1 .i32) ∗ owns (c : Thread nD τ) arg12 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay3 x0 x3 x4) ∗ owns (c : Thread nD τ) arg9 fullShare (k0_pay4 x0 x3 x4 x5 x6) ∗ owns (c : Thread nD τ) arg10 fullShare (fP x0 x1 x2 x3 x4 x5 x6 s0 s1) ∗ owns (c : Thread nD τ) arg11 fullShare (fun _ => lastIx x1 : Vec F S1x1 .i32) ∗ owns (c : Thread nD τ) arg12 fullShare (k0_pay1 (fP x0 x1 x2 x3 x4 x5 x6 s0 s1))) -∗ K ⟨⟩))
          ⊢ wp frame (wpE (defs₀ (F := F)) Variants.none c none) E (cc0__fwd_kernel i arg1 harg1 arg2 harg2 arg3 harg3 arg4 harg4 arg5 harg5 arg6 harg6 arg7 harg7 arg8 harg8 arg9 harg9 arg10 harg10 arg11 harg11 arg12 harg12) K := by
    simp only [cc0__fwd_kernel_eq_skeleton]; unfold cc0__fwd_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    subst hf0 hf1 hf2 hf3 hf4 hf5 hf6 hfs1
    have e0 : View.readAt (Elt F) arg1.view (Rect.unit ![0, 0] ![640, 128] inb_S640x128_S640x128_0_0).toLoadRect f0 = View.read (Elt F) arg1.view f0 := View.readAt_full (s := S640x128) _ _ _
    have e1 : View.readAt (Elt F) arg2.view (Rect.unit ![0, 0] ![640, 1] inb_S640x1_S640x1_0_0).toLoadRect f1 = View.read (Elt F) arg2.view f1 := View.readAt_full (s := S640x1) _ _ _
    have e2 : View.readAt (Elt F) arg3.view (Rect.unit ![0, 0] ![640, 1] inb_S640x1_S640x1_0_0).toLoadRect f2 = View.read (Elt F) arg3.view f2 := View.readAt_full (s := S640x1) _ _ _
    have e3 : View.readAt (Elt F) arg4.view (Rect.unit ![0, 0] ![128, 128] inb_S128x128_S128x128_0_0).toLoadRect f3 = View.read (Elt F) arg4.view f3 := View.readAt_full (s := S128x128) _ _ _
    have e4 : View.readAt (Elt F) arg5.view (Rect.unit ![0, 0] ![1, 128] inb_S1x128_S1x128_0_0).toLoadRect f4 = View.read (Elt F) arg5.view f4 := View.readAt_full (s := S1x128) _ _ _
    have e5 : View.readAt (Elt F) arg6.view (Rect.unit ![0, 0] ![128, 1] inb_S128x1_S128x1_0_0).toLoadRect f5 = View.read (Elt F) arg6.view f5 := View.readAt_full (s := S128x1) _ _ _
    have e6 : View.readAt (Elt F) arg7.view (Rect.unit ![0, 0] ![1, 1] inb_S1x1_S1x1_0_0).toLoadRect f6 = View.read (Elt F) arg7.view f6 := View.readAt_full (s := S1x1) _ _ _
    have es0 : View.readAt (Elt F) arg11.view (Rect.unit ![0, 0] ![1, 1] inb_S1x1_S1x1_0_0).toLoadRect fs0 = View.read (Elt F) arg11.view fs0 := View.readAt_full (s := S1x1) _ _ _
    have es1 : View.readAt (Elt F) arg12.view (Rect.unit ![0, 0] ![1, 384] inb_S1x384_S1x384_0_0).toLoadRect fs1 = View.read (Elt F) arg12.view fs1 := View.readAt_full (s := S1x384) _ _ _
    have e0 : View.readAt (Elt F) arg1.view (Rect.unit ![0, 0] ![640, 128] inb_S640x128_S640x128_0_0).toLoadRect f0 = View.read (Elt F) arg1.view f0 := View.readAt_full (s := S640x128) _ _ _
    have e1 : View.readAt (Elt F) arg2.view (Rect.unit ![0, 0] ![640, 1] inb_S640x1_S640x1_0_0).toLoadRect f1 = View.read (Elt F) arg2.view f1 := View.readAt_full (s := S640x1) _ _ _
    have e2 : View.readAt (Elt F) arg3.view (Rect.unit ![0, 0] ![640, 1] inb_S640x1_S640x1_0_0).toLoadRect f2 = View.read (Elt F) arg3.view f2 := View.readAt_full (s := S640x1) _ _ _
    have e3 : View.readAt (Elt F) arg4.view (Rect.unit ![0, 0] ![128, 128] inb_S128x128_S128x128_0_0).toLoadRect f3 = View.read (Elt F) arg4.view f3 := View.readAt_full (s := S128x128) _ _ _
    have e4 : View.readAt (Elt F) arg5.view (Rect.unit ![0, 0] ![1, 128] inb_S1x128_S1x128_0_0).toLoadRect f4 = View.read (Elt F) arg5.view f4 := View.readAt_full (s := S1x128) _ _ _
    have e5 : View.readAt (Elt F) arg6.view (Rect.unit ![0, 0] ![128, 1] inb_S128x1_S128x1_0_0).toLoadRect f5 = View.read (Elt F) arg6.view f5 := View.readAt_full (s := S128x1) _ _ _
    have e6 : View.readAt (Elt F) arg7.view (Rect.unit ![0, 0] ![1, 1] inb_S1x1_S1x1_0_0).toLoadRect f6 = View.read (Elt F) arg7.view f6 := View.readAt_full (s := S1x1) _ _ _
    have es0 : View.readAt (Elt F) arg11.view (Rect.unit ![0, 0] ![1, 1] inb_S1x1_S1x1_0_0).toLoadRect fs0 = View.read (Elt F) arg11.view fs0 := View.readAt_full (s := S1x1) _ _ _
    have es1 : View.readAt (Elt F) arg12.view (Rect.unit ![0, 0] ![1, 384] inb_S1x384_S1x384_0_0).toLoadRect fs1 = View.read (Elt F) arg12.view fs1 := View.readAt_full (s := S1x384) _ _ _
    isplitl [H7]
    · iexists _; isplitr; swap; (· iexact H7); ipureintro
      refine (View.read_writes_full _ _ _ _ _).trans ?_
      delta fwd_run_B.sl.r
      simp only [e0, e1, e2, e3, e4, e5, e6, es0, es1, hfs0]
    isplitl [H8]
    · iexists _; isplitr; swap; (· iexact H8); ipureintro
      refine (View.read_writes_full _ _ _ _ _).trans ?_
      delta fwd_run_B.sl.r_1
      simp only [e0, e1, e2, e3, e4, e5, e6, es0, es1, hfs0]
    have hP : fwd_run_B.sl.r_14 c arg1 arg2 arg3 arg4 arg5 arg6 arg7 arg11 arg12 f0 f1 f2 f3 f4 f5 f6 fs0 fs1
        = fP (View.read (Elt F) arg1.view f0) (View.read (Elt F) arg2.view f1) (View.read (Elt F) arg3.view f2)
          (View.read (Elt F) arg4.view f3) (View.read (Elt F) arg5.view f4) (View.read (Elt F) arg6.view f5)
          (View.read (Elt F) arg7.view f6) s0 (View.read (Elt F) arg12.view fs1) := by
      delta fwd_run_B.sl.r_14 fwd_run_B.sl.r_13 fwd_run_B.sl.r_12 fwd_run_B.sl.r_11 fwd_run_B.sl.r_10 fwd_run_B.sl.r_9 fwd_run_B.sl.r_8 fwd_run_B.sl.r_7 fwd_run_B.sl.r_6 fwd_run_B.sl.r_5 fwd_run_B.sl.r_4 fwd_run_B.sl.r_3 fwd_run_B.sl.r_2 fwd_run_B.sl.r_1 fwd_run_B.sl.r fP
      simp only [e0, e1, e2, e3, e4, e5, e6, es0, es1, hfs0]
    isplitl [H9]
    · iexists _; isplitr; swap; (· iexact H9); ipureintro
      exact (View.read_writes_full _ _ _ _ _).trans hP
    isplitl [HS0]
    · iexists _; isplitr; swap; (· iexact HS0); ipureintro
      refine (View.read_writes_full (s := S1x1) _ _ _ _ _).trans ?_
      funext x
      unfold lastIx
      show View.read (Elt F) arg2.view f1 _ = View.read (Elt F) arg2.view f1 _
      congr 1
      funext a
      fin_cases a <;> rfl
    iexists _; isplitr; swap; (· iexact HS1); ipureintro
    exact (View.read_writes_full _ _ _ _ _).trans (congrArg _ hP)

set_option maxHeartbeats 1000000 in
/-- The body at the first point: the carry is first set to the segment number −1 and the zero row. -/
theorem fwd_run_A (c : Dev nD) (i : grid0.Coords) (arg1 : Memref sig .tc .vmem S640x128 .f32) (harg1 : arg1.IsWhole) (arg2 : Memref sig .tc .vmem S640x1 .i32) (harg2 : arg2.IsWhole) (arg3 : Memref sig .tc .vmem S640x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S640x128 .f32) (harg8 : arg8.IsWhole) (arg9 : Memref sig .tc .vmem S640x1 .f32) (harg9 : arg9.IsWhole) (arg10 : Memref sig .tc .vmem S640x384 .f32) (harg10 : arg10.IsWhole) (arg11 : Memref sig .tc .smem S1x1 .i32) (harg11 : arg11.IsWhole) (arg12 : Memref sig .tc .vmem S1x384 .f32) (harg12 : arg12.IsWhole) (hc0 : cond0 i)
    (x0 : Vec F S640x128 .f32) (x1 : Vec F S640x1 .i32) (x2 : Vec F S640x1 .f32) (x3 : Vec F S128x128 .f32) (x4 : Vec F S1x128 .f32) (x5 : Vec F S128x1 .f32) (x6 : Vec F S1x1 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay3 x0 x3 x4) ∗ owns (c : Thread nD τ) arg9 fullShare (k0_pay4 x0 x3 x4 x5 x6) ∗ owns (c : Thread nD τ) arg10 fullShare (fP x0 x1 x2 x3 x4 x5 x6 4294967295#32 (k0_pay2 (F := F))) ∗ owns (c : Thread nD τ) arg11 fullShare (fun _ => lastIx x1 : Vec F S1x1 .i32) ∗ owns (c : Thread nD τ) arg12 fullShare (k0_pay1 (fP x0 x1 x2 x3 x4 x5 x6 4294967295#32 (k0_pay2 (F := F))))) -∗ K ⟨⟩))
          ⊢ wp frame (wpE (defs₀ (F := F)) Variants.none c none) E (cc0__fwd_kernel i arg1 harg1 arg2 harg2 arg3 harg3 arg4 harg4 arg5 harg5 arg6 harg6 arg7 harg7 arg8 harg8 arg9 harg9 arg10 harg10 arg11 harg11 arg12 harg12) K := by
    simp only [cc0__fwd_kernel_eq_skeleton]; unfold cc0__fwd_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, %hfs0, HS0⟩, ⟨%ds1, %fs1, %hfs1, HS1⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    subst hf0 hf1 hf2 hf3 hf4 hf5 hf6
    have e0 : View.readAt (Elt F) arg1.view (Rect.unit ![0, 0] ![640, 128] inb_S640x128_S640x128_0_0).toLoadRect f0 = View.read (Elt F) arg1.view f0 := View.readAt_full (s := S640x128) _ _ _
    have e1 : View.readAt (Elt F) arg2.view (Rect.unit ![0, 0] ![640, 1] inb_S640x1_S640x1_0_0).toLoadRect f1 = View.read (Elt F) arg2.view f1 := View.readAt_full (s := S640x1) _ _ _
    have e2 : View.readAt (Elt F) arg3.view (Rect.unit ![0, 0] ![640, 1] inb_S640x1_S640x1_0_0).toLoadRect f2 = View.read (Elt F) arg3.view f2 := View.readAt_full (s := S640x1) _ _ _
    have e3 : View.readAt (Elt F) arg4.view (Rect.unit ![0, 0] ![128, 128] inb_S128x128_S128x128_0_0).toLoadRect f3 = View.read (Elt F) arg4.view f3 := View.readAt_full (s := S128x128) _ _ _
    have e4 : View.readAt (Elt F) arg5.view (Rect.unit ![0, 0] ![1, 128] inb_S1x128_S1x128_0_0).toLoadRect f4 = View.read (Elt F) arg5.view f4 := View.readAt_full (s := S1x128) _ _ _
    have e5 : View.readAt (Elt F) arg6.view (Rect.unit ![0, 0] ![128, 1] inb_S128x1_S128x1_0_0).toLoadRect f5 = View.read (Elt F) arg6.view f5 := View.readAt_full (s := S128x1) _ _ _
    have e6 : View.readAt (Elt F) arg7.view (Rect.unit ![0, 0] ![1, 1] inb_S1x1_S1x1_0_0).toLoadRect f6 = View.read (Elt F) arg7.view f6 := View.readAt_full (s := S1x1) _ _ _
    have e0 : View.readAt (Elt F) arg1.view (Rect.unit ![0, 0] ![640, 128] inb_S640x128_S640x128_0_0).toLoadRect f0 = View.read (Elt F) arg1.view f0 := View.readAt_full (s := S640x128) _ _ _
    have e1 : View.readAt (Elt F) arg2.view (Rect.unit ![0, 0] ![640, 1] inb_S640x1_S640x1_0_0).toLoadRect f1 = View.read (Elt F) arg2.view f1 := View.readAt_full (s := S640x1) _ _ _
    have e2 : View.readAt (Elt F) arg3.view (Rect.unit ![0, 0] ![640, 1] inb_S640x1_S640x1_0_0).toLoadRect f2 = View.read (Elt F) arg3.view f2 := View.readAt_full (s := S640x1) _ _ _
    have e3 : View.readAt (Elt F) arg4.view (Rect.unit ![0, 0] ![128, 128] inb_S128x128_S128x128_0_0).toLoadRect f3 = View.read (Elt F) arg4.view f3 := View.readAt_full (s := S128x128) _ _ _
    have e4 : View.readAt (Elt F) arg5.view (Rect.unit ![0, 0] ![1, 128] inb_S1x128_S1x128_0_0).toLoadRect f4 = View.read (Elt F) arg5.view f4 := View.readAt_full (s := S1x128) _ _ _
    have e5 : View.readAt (Elt F) arg6.view (Rect.unit ![0, 0] ![128, 1] inb_S128x1_S128x1_0_0).toLoadRect f5 = View.read (Elt F) arg6.view f5 := View.readAt_full (s := S128x1) _ _ _
    have e6 : View.readAt (Elt F) arg7.view (Rect.unit ![0, 0] ![1, 1] inb_S1x1_S1x1_0_0).toLoadRect f6 = View.read (Elt F) arg7.view f6 := View.readAt_full (s := S1x1) _ _ _
    isplitl [H7]
    · iexists _; isplitr; swap; (· iexact H7); ipureintro
      refine (View.read_writes_full _ _ _ _ _).trans ?_
      delta fwd_run_A.sl.r_1
      simp only [e0, e1, e2, e3, e4, e5, e6]
    isplitl [H8]
    · iexists _; isplitr; swap; (· iexact H8); ipureintro
      refine (View.read_writes_full _ _ _ _ _).trans ?_
      delta fwd_run_A.sl.r_2
      simp only [e0, e1, e2, e3, e4, e5, e6]
    have hv : fwd_run_A.sl.v165 (F := F) c arg12 = k0_pay2 := by
      delta fwd_run_A.sl.v165
      exact View.readCov_full (s := S1x384) _ _ _ _ _
    isplitl [H9]
    · iexists _; isplitr; swap; (· iexact H9); ipureintro
      refine (View.read_writes_full _ _ _ _ _).trans ?_
      delta fwd_run_A.sl.r_14 fwd_run_A.sl.r_13 fwd_run_A.sl.r_12 fwd_run_A.sl.r_11 fwd_run_A.sl.r_10 fwd_run_A.sl.r_9 fwd_run_A.sl.r_8 fwd_run_A.sl.r_7 fwd_run_A.sl.r_6 fwd_run_A.sl.r_5 fwd_run_A.sl.r_4 fwd_run_A.sl.r_3 fwd_run_A.sl.r_2 fwd_run_A.sl.r_1 fwd_run_A.sl.r fP
      simp only [e0, e1, e2, e3, e4, e5, e6, hv]
    isplitl [HS0]
    · iexists _; isplitr; swap; (· iexact HS0); ipureintro
      refine (View.read_writes_full (s := S1x1) _ _ _ _ _).trans ?_
      funext x
      unfold lastIx
      show View.read (Elt F) arg2.view f1 _ = View.read (Elt F) arg2.view f1 _
      congr 1
      funext a
      fin_cases a <;> rfl
    iexists _; isplitr; swap; (· iexact HS1); ipureintro
    refine (View.read_writes_full _ _ _ _ _).trans ?_
    delta fwd_run_A.sl.r_14 fwd_run_A.sl.r_13 fwd_run_A.sl.r_12 fwd_run_A.sl.r_11 fwd_run_A.sl.r_10 fwd_run_A.sl.r_9 fwd_run_A.sl.r_8 fwd_run_A.sl.r_7 fwd_run_A.sl.r_6 fwd_run_A.sl.r_5 fwd_run_A.sl.r_4 fwd_run_A.sl.r_3 fwd_run_A.sl.r_2 fwd_run_A.sl.r_1 fwd_run_A.sl.r fP
    simp only [e0, e1, e2, e3, e4, e5, e6, hv]

end Cert.KernelIdeal.Hand

end
-- ==== Proof.KI.FwdRegion.lean ====
/-
  The forward kernel's region: what its scratch carries from one grid point to the next, the pipeline's proof data
  over the contents the region finds, and the body obligation at every grid point.
-/
module

public import proofs.«01_k».proof.Proof.KI.FwdBody
public import Idealize.ShloMosaic.Lib.Pipeline.RegionArraysS
public import Idealize.ShloMosaic.Lib.Pipeline.FrameTail

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off the contents the region finds. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What the scratch carries into point `n`: the last row's segment number and the last row of the running sums. -/
def carry0 (c : Dev nD) : ℕ → BitVec 32 × Vec F S1x384 .f32
  | 0 => (4294967295#32, k0_pay2)
  | n + 1 => if h : n < cfg0.N then
      (lastIx (iblk0 W c 1 ⟨n, h⟩), k0_pay1 (fP (iblk0 W c 0 ⟨n, h⟩) (iblk0 W c 1 ⟨n, h⟩) (iblk0 W c 2 ⟨n, h⟩) (iblk0 W c 3 ⟨n, h⟩) (iblk0 W c 4 ⟨n, h⟩) (iblk0 W c 5 ⟨n, h⟩) (iblk0 W c 6 ⟨n, h⟩) (carry0 c n).1 (carry0 c n).2))
    else carry0 c n

/-- The carry after a grid point, from the carry before it. -/
theorem carry0_succ (c : Dev nD) (t : Fin cfg0.N) : carry0 W c (t.val + 1)
    = (lastIx (iblk0 W c 1 t), k0_pay1 (fP (iblk0 W c 0 t) (iblk0 W c 1 t) (iblk0 W c 2 t) (iblk0 W c 3 t) (iblk0 W c 4 t) (iblk0 W c 5 t) (iblk0 W c 6 t) (carry0 W c t.val).1 (carry0 W c t.val).2)) := by
  show (if h : t.val < cfg0.N then _ else _) = _
  rw [dif_pos t.isLt]

/-- The scratch buffer of the carried segment number. -/
abbrev scN0 : Memref sig .tc .smem S1x1 .i32 := Memref.whole cc0_scratch0
/-- The scratch buffer of the carried row. -/
abbrev scR0 : Memref sig .tc .vmem S1x384 .f32 := Memref.whole cc0_scratch1

/-- Every scoped buffer that is neither staged here nor this kernel's scratch, at some contents. -/
def others0 (c : Dev nD) : sProp 𝕄 :=
  Pipeline.scopedRestBut (Ix := Unit) (Name := ℕ) (U := UR sig nD τ) (Lvl := ℕ) (Val := Elt F) spec0 c [cc0_scratch1, cc0_scratch0]

/-- The scoped buffers the pipeline does not stage are the two scratch buffers and the others. -/
theorem scoped0_split (c : Dev nD) :
    (Pipeline.scopedRest (Ix := Unit) (Name := ℕ) (U := UR sig nD τ) (Lvl := ℕ) (Val := Elt F) spec0 c : sProp 𝕄)
      = iprop(((∃ d, owns (c : Thread nD τ) scR0 fullShare d) ∗ (∃ d, owns (c : Thread nD τ) scN0 fullShare d)) ∗ others0 c) := by
  rw [Pipeline.scopedRest_split_of_list spec0 c [cc0_scratch1, cc0_scratch0] (by decide) (by decide)]
  simp only [scN0, scR0, owns_whole]
  rfl

/-- The region's invariant before point `n`: at the start every unstaged scoped buffer at some contents; later the
    scratch at the carry. -/
def Phi0 (c : Dev nD) : ℕ → sProp 𝕄
  | 0 => Pipeline.scopedRest (Ix := Unit) (Name := ℕ) (U := UR sig nD τ) (Lvl := ℕ) (Val := Elt F) spec0 c
  | n + 1 => iprop((owns (c : Thread nD τ) scR0 fullShare (carry0 W c (n + 1)).2
      ∗ owns (c : Thread nD τ) scN0 fullShare (fun _ => (carry0 W c (n + 1)).1 : Vec F S1x1 .i32)) ∗ others0 c)

/-- The invariant before the first point. -/
theorem Phi0_zero (c : Dev nD) (n : ℕ) (h : n = 0) : Phi0 W c n
    = iprop(((∃ d, owns (c : Thread nD τ) scR0 fullShare d) ∗ (∃ d, owns (c : Thread nD τ) scN0 fullShare d)) ∗ others0 c) := by
  subst h; exact scoped0_split c

/-- The invariant before any other point. -/
theorem Phi0_pos (c : Dev nD) (n : ℕ) (h : n ≠ 0) : Phi0 W c n
    = iprop((owns (c : Thread nD τ) scR0 fullShare (carry0 W c n).2
      ∗ owns (c : Thread nD τ) scN0 fullShare (fun _ => (carry0 W c n).1 : Vec F S1x1 .i32)) ∗ others0 c) := by
  obtain ⟨n, rfl⟩ := Nat.exists_eq_succ_of_ne_zero h
  rfl

/-- The pipeline's proof data: every input's block stays, every result's block is the body's value at the carry. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => iblk0 W c 6 t
    | ⟨7, _⟩ => k0_pay3 (iblk0 W c 0 t) (iblk0 W c 3 t) (iblk0 W c 4 t)
    | ⟨8, _⟩ => k0_pay4 (iblk0 W c 0 t) (iblk0 W c 3 t) (iblk0 W c 4 t) (iblk0 W c 5 t) (iblk0 W c 6 t)
    | ⟨9, _⟩ => fP (iblk0 W c 0 t) (iblk0 W c 1 t) (iblk0 W c 2 t) (iblk0 W c 3 t) (iblk0 W c 4 t) (iblk0 W c 5 t) (iblk0 W c 6 t) (carry0 W c t.val).1 (carry0 W c t.val).2
  Φ t := Phi0 W c t.val
  q _ := fullShare
  owed _ := 0

/-- The arrays enter at the contents the region finds. -/
theorem A0_eq (c : Dev nD) (w : Fin cfg0.W) : (dat0 W c).A w = W c (Proc.devRef .tc (Pipeline.arrRef spec0 w)) := by
  dsimp only [dat0]

/-! ## What the body finds and leaves, window by window -/

theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) : (dat0 W c).after 5 t = iblk0 W c 5 t := by dsimp only [dat0]
theorem after0_6 (c : Dev nD) (t : Fin cfg0.N) : (dat0 W c).after 6 t = iblk0 W c 6 t := by dsimp only [dat0]
theorem after0_7 (c : Dev nD) (t : Fin cfg0.N) : (dat0 W c).after 7 t = k0_pay3 (iblk0 W c 0 t) (iblk0 W c 3 t) (iblk0 W c 4 t) := by dsimp only [dat0]
theorem after0_8 (c : Dev nD) (t : Fin cfg0.N) : (dat0 W c).after 8 t = k0_pay4 (iblk0 W c 0 t) (iblk0 W c 3 t) (iblk0 W c 4 t) (iblk0 W c 5 t) (iblk0 W c 6 t) := by dsimp only [dat0]
theorem after0_9 (c : Dev nD) (t : Fin cfg0.N) : (dat0 W c).after 9 t = fP (iblk0 W c 0 t) (iblk0 W c 1 t) (iblk0 W c 2 t) (iblk0 W c 3 t) (iblk0 W c 4 t) (iblk0 W c 5 t) (iblk0 W c 6 t) (carry0 W c t.val).1 (carry0 W c t.val).2 := by dsimp only [dat0]
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A0_eq]) t d).trans
    (by unfold Dat.fetched Dat.blockOf iblk0; rw [A0_eq]; rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A0_eq]) t d).trans
    (by unfold Dat.fetched Dat.blockOf iblk0; rw [A0_eq]; rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A0_eq]) t d).trans
    (by unfold Dat.fetched Dat.blockOf iblk0; rw [A0_eq]; rfl)
theorem before0_3 (c : Dev nD) (t : Fin cfg0.N) (d) : (dat0 W c).before 3 t d = iblk0 W c 3 t :=
  ((dat0 W c).before_in_eq_fetched 3 rfl (fun _ => rfl) (fun _ _ _ => rfl) (fun t => by rw [after0_3]; unfold Dat.blockOf iblk0; rw [A0_eq]) t d).trans
    (by unfold Dat.fetched Dat.blockOf iblk0; rw [A0_eq]; rfl)
theorem before0_4 (c : Dev nD) (t : Fin cfg0.N) (d) : (dat0 W c).before 4 t d = iblk0 W c 4 t :=
  ((dat0 W c).before_in_eq_fetched 4 rfl (fun _ => rfl) (fun _ _ _ => rfl) (fun t => by rw [after0_4]; unfold Dat.blockOf iblk0; rw [A0_eq]) t d).trans
    (by unfold Dat.fetched Dat.blockOf iblk0; rw [A0_eq]; rfl)
theorem before0_5 (c : Dev nD) (t : Fin cfg0.N) (d) : (dat0 W c).before 5 t d = iblk0 W c 5 t :=
  ((dat0 W c).before_in_eq_fetched 5 rfl (fun _ => rfl) (fun _ _ _ => rfl) (fun t => by rw [after0_5]; unfold Dat.blockOf iblk0; rw [A0_eq]) t d).trans
    (by unfold Dat.fetched Dat.blockOf iblk0; rw [A0_eq]; rfl)
theorem before0_6 (c : Dev nD) (t : Fin cfg0.N) (d) : (dat0 W c).before 6 t d = iblk0 W c 6 t :=
  ((dat0 W c).before_in_eq_fetched 6 rfl (fun _ => rfl) (fun _ _ _ => rfl) (fun t => by rw [after0_6]; unfold Dat.blockOf iblk0; rw [A0_eq]) t d).trans
    (by unfold Dat.fetched Dat.blockOf iblk0; rw [A0_eq]; rfl)

/-- Window 0's current staging buffer. -/
abbrev stg0_0 (t : Fin cfg0.N) := win0_0.stage (cfg0.slots t 0)
/-- Window 1's current staging buffer. -/
abbrev stg0_1 (t : Fin cfg0.N) := win0_1.stage (cfg0.slots t 1)
/-- Window 2's current staging buffer. -/
abbrev stg0_2 (t : Fin cfg0.N) := win0_2.stage (cfg0.slots t 2)
/-- Window 3's current staging buffer. -/
abbrev stg0_3 (t : Fin cfg0.N) := win0_3.stage (cfg0.slots t 3)
/-- Window 4's current staging buffer. -/
abbrev stg0_4 (t : Fin cfg0.N) := win0_4.stage (cfg0.slots t 4)
/-- Window 5's current staging buffer. -/
abbrev stg0_5 (t : Fin cfg0.N) := win0_5.stage (cfg0.slots t 5)
/-- Window 6's current staging buffer. -/
abbrev stg0_6 (t : Fin cfg0.N) := win0_6.stage (cfg0.slots t 6)
/-- Window 7's current staging buffer. -/
abbrev stg0_7 (t : Fin cfg0.N) := win0_7.stage (cfg0.slots t 7)
/-- Window 8's current staging buffer. -/
abbrev stg0_8 (t : Fin cfg0.N) := win0_8.stage (cfg0.slots t 8)
/-- Window 9's current staging buffer. -/
abbrev stg0_9 (t : Fin cfg0.N) := win0_9.stage (cfg0.slots t 9)
/-- What the body is called with at point `t`, -/
def pre0 (c : Dev nD) (t : Fin cfg0.N) : sProp 𝕄 :=
  iprop((dat0 W c).Φ t.castSucc ∗ (dat0 W c).owesAt () t.castSucc
    ∗ (∃ d, owns (c : Thread nD τ) (stg0_0 t) fullShare ((dat0 W c).before 0 t d))
    ∗ (∃ d, owns (c : Thread nD τ) (stg0_1 t) fullShare ((dat0 W c).before 1 t d))
    ∗ (∃ d, owns (c : Thread nD τ) (stg0_2 t) fullShare ((dat0 W c).before 2 t d))
    ∗ (∃ d, owns (c : Thread nD τ) (stg0_3 t) fullShare ((dat0 W c).before 3 t d))
    ∗ (∃ d, owns (c : Thread nD τ) (stg0_4 t) fullShare ((dat0 W c).before 4 t d))
    ∗ (∃ d, owns (c : Thread nD τ) (stg0_5 t) fullShare ((dat0 W c).before 5 t d))
    ∗ (∃ d, owns (c : Thread nD τ) (stg0_6 t) fullShare ((dat0 W c).before 6 t d))
    ∗ (∃ d, owns (c : Thread nD τ) (stg0_7 t) fullShare ((dat0 W c).before 7 t d))
    ∗ (∃ d, owns (c : Thread nD τ) (stg0_8 t) fullShare ((dat0 W c).before 8 t d))
    ∗ (∃ d, owns (c : Thread nD τ) (stg0_9 t) fullShare ((dat0 W c).before 9 t d)))

/-- and what it leaves. -/
def post0 (c : Dev nD) (t : Fin cfg0.N) : sProp 𝕄 :=
  iprop((dat0 W c).Φ t.succ ∗ (dat0 W c).owesAt () t.succ
    ∗ owns (c : Thread nD τ) (stg0_0 t) fullShare ((dat0 W c).after 0 t)
    ∗ owns (c : Thread nD τ) (stg0_1 t) fullShare ((dat0 W c).after 1 t)
    ∗ owns (c : Thread nD τ) (stg0_2 t) fullShare ((dat0 W c).after 2 t)
    ∗ owns (c : Thread nD τ) (stg0_3 t) fullShare ((dat0 W c).after 3 t)
    ∗ owns (c : Thread nD τ) (stg0_4 t) fullShare ((dat0 W c).after 4 t)
    ∗ owns (c : Thread nD τ) (stg0_5 t) fullShare ((dat0 W c).after 5 t)
    ∗ owns (c : Thread nD τ) (stg0_6 t) fullShare ((dat0 W c).after 6 t)
    ∗ owns (c : Thread nD τ) (stg0_7 t) fullShare ((dat0 W c).after 7 t)
    ∗ owns (c : Thread nD τ) (stg0_8 t) fullShare ((dat0 W c).after 8 t)
    ∗ owns (c : Thread nD τ) (stg0_9 t) fullShare ((dat0 W c).after 9 t))

set_option maxHeartbeats 4000000 in
/-- The body at any grid point: it finds the inputs' blocks and the carry, and leaves the results' blocks and the next carry. -/
theorem sound0 (c : Dev nD) (t : Fin cfg0.N) :
    pre0 W c t ⊢ wp frame (wpE (defs₀ (F := F)) Variants.none c none) Set.univ (bodyAt0 t) (fun _ => post0 W c t) := by
  unfold pre0 post0 bodyAt0
  simp only [before0_0, before0_1, before0_2, before0_3, before0_4, before0_5, before0_6]
  rw [show (dat0 W c).owesAt () t.succ = (dat0 W c).owesAt () t.castSucc from rfl,
    after0_0, after0_1, after0_2, after0_3, after0_4, after0_5, after0_6, after0_7, after0_8, after0_9]
  rw [show (dat0 W c).Φ t.succ = Phi0 W c (t.val + 1) from rfl, Phi0_pos W c _ (Nat.succ_ne_zero _), carry0_succ]
  by_cases h0 : t.val = 0
  · rw [show (dat0 W c).Φ t.castSucc = Phi0 W c t.val from rfl, Phi0_zero W c _ h0]
    rw [show carry0 W c t.val = (4294967295#32, k0_pay2) from by rw [h0]; rfl]
    iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (fwd_run_A c (grid0.coords t) _ _ _ _ _ _ _ _ _ _ _ _ _ _ _ _ _ _ _ _ _ _ _ _ ((hcond0 t).mpr h0) (iblk0 W c 0 t) (iblk0 W c 1 t) (iblk0 W c 2 t) (iblk0 W c 3 t) (iblk0 W c 4 t) (iblk0 W c 5 t) (iblk0 W c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS1 HS0 Hg]
    · isplitl [HS1 HS0]
      · isplitl [HS1]
        · iexact HS1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dat0 W c).Φ t.castSucc = Phi0 W c t.val from rfl, Phi0_pos W c _ h0]
    iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (fwd_run_B c (grid0.coords t) _ _ _ _ _ _ _ _ _ _ _ _ _ _ _ _ _ _ _ _ _ _ _ _ (fun h => h0 ((hcond0 t).mp h)) (iblk0 W c 0 t) (iblk0 W c 1 t) (iblk0 W c 2 t) (iblk0 W c 3 t) (iblk0 W c 4 t) (iblk0 W c 5 t) (iblk0 W c 6 t) (carry0 W c t.val).1 (carry0 W c t.val).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS1 HS0 Hg]
    · isplitl [HS1 HS0]
      · isplitl [HS1]
        · iexact HS1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t` is the body at `t`. -/
theorem defs0_row (t : Fin cfg0.N) :
    defs₀ (F := F) .tc cfg0.body (cfg0.bodyArgs t (cfg0.slots t)) = bodyAt0 t := by
  unfold defs₀; rw [Defs.onTc_tc]

/-- The pipeline's body obligation at every point. -/
theorem obligation0 (c : Dev nD) : BodyObligation (dat0 W c) (defs₀ (F := F)) Variants.none () Set.univ := fun t => by
  rw [bigSep_W0, bigSep_W0, defs0_row]
  exact triple_restated (sound0 W c t) rfl .rfl fun _ => .rfl

/-- The unstaged scoped buffers give the invariant before the first point. -/
theorem hin0 (c : Dev nD) : iprop(Pipeline.scopedRest (Ix := Unit) (Name := ℕ) (U := UR sig nD τ) (Lvl := ℕ) (Val := Elt F) spec0 c ∗ (BI.emp : sProp 𝕄)) ⊢ (dat0 W c).Φ 0 := by
  rw [show (dat0 W c).Φ 0 = Pipeline.scopedRest (Ix := Unit) (Name := ℕ) (U := UR sig nD τ) (Lvl := ℕ) (Val := Elt F) spec0 c from rfl]
  iintro ⟨H, -⟩
  iexact H

/-- The invariant after the last point gives them back. -/
theorem hout0 (c : Dev nD) : (dat0 W c).Φ (Fin.last cfg0.N) ⊢ iprop(Pipeline.scopedRest (Ix := Unit) (Name := ℕ) (U := UR sig nD τ) (Lvl := ℕ) (Val := Elt F) spec0 c ∗ (BI.emp : sProp 𝕄)) := by
  rw [show (dat0 W c).Φ (Fin.last cfg0.N) = Phi0 W c cfg0.N from rfl, Phi0_pos W c _ (by rw [show cfg0.N = 500 from N_0]; decide), scoped0_split]
  iintro ⟨⟨HS1, HS0⟩, Hg⟩
  isplitl
  · isplitl [HS1 HS0]
    · isplitl [HS1]
      · iexists _; iexact HS1
      iexists _; iexact HS0
    iexact Hg
  iempintro

end Cert.KernelIdeal.Hand

end
-- ==== Proof.KI.BwdBody.lean ====
/-
  The body of the backward kernel (call 1), run once on any staging buffers: what it leaves in each result and in
  its two scratch buffers, as closed functions of what it was given.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp
public import Idealize.ShloMosaic.Lib.ValueIdxCore

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

/-- The zero the kernel pads and selects with. -/
abbrev z0 : F .f32 := Scalar.ofBits .f32 0x00000000#32

/-- The number 0.001 the kernel clamps and regularises with. -/
abbrev zm : F .f32 := Scalar.ofBits .f32 0x3A83126F#32

/-- The segment number in the first row of a block of indices. -/
def firstIx (x1 : Vec F S640x1 .i32) : BitVec 32 := x1 (ix2 ⟨0, by decide⟩ ⟨0, by decide⟩)

/-- The block's backward scan after its steps of 1 to 8 rows. -/
def b79 (x1 : Vec F S640x1 .i32) (x2 : Vec F S640x128 .f32) (x3 x4 : Vec F S640x1 .f32) : FVec F S640x384 .f32 :=
  k1_pay10 (k1_pay2 x1) (k1_pay7 x2 x3 x4) (k1_pay8 x2 x3 x4) (k1_pay9 x1) z0

/-- The same, moved up by 16 rows. -/
def b82 (x1 : Vec F S640x1 .i32) (x2 : Vec F S640x128 .f32) (x3 x4 : Vec F S640x1 .f32) : FVec F S640x384 .f32 :=
  k1_pay11 (k1_pay2 x1) (k1_pay7 x2 x3 x4) (k1_pay8 x2 x3 x4) (k1_pay9 x1) z0

/-- The block's backward scan after its steps of 1 to 128 rows. -/
def b127 (x1 : Vec F S640x1 .i32) (x2 : Vec F S640x128 .f32) (x3 x4 : Vec F S640x1 .f32) : FVec F S640x384 .f32 :=
  k1_pay13 (k1_pay2 x1) (b79 x1 x2 x3 x4) (b82 x1 x2 x3 x4) (k1_pay12 (k1_pay2 x1)) z0

/-- The same, moved up by 256 rows. -/
def b130 (x1 : Vec F S640x1 .i32) (x2 : Vec F S640x128 .f32) (x3 x4 : Vec F S640x1 .f32) : FVec F S640x384 .f32 :=
  k1_pay14 (k1_pay2 x1) (b79 x1 x2 x3 x4) (b82 x1 x2 x3 x4) (k1_pay12 (k1_pay2 x1)) z0

/-- The first row of the block of segment totals: the row the kernel carries on. -/
def bRow (x0 : Vec F S640x384 .f32) (x1 : Vec F S640x1 .i32) (x2 : Vec F S640x128 .f32) (x3 x4 : Vec F S640x1 .f32) (s0 : BitVec 32)
    (s1 : Vec F S1x384 .f32) : FVec F S1x384 .f32 :=
  k1_pay17 (k1_pay2 x1) (k1_pay3 x0) (k1_pay7 x2 x3 x4) (b127 x1 x2 x3 x4) (b130 x1 x2 x3 x4) (k1_pay15 (k1_pay2 x1)) z0 s1 s0

/-- The segment totals of `u·h`. -/
def bSh (x0 : Vec F S640x384 .f32) (x1 : Vec F S640x1 .i32) (x2 : Vec F S640x128 .f32) (x3 x4 : Vec F S640x1 .f32) (s0 : BitVec 32)
    (s1 : Vec F S1x384 .f32) : FVec F S640x128 .f32 :=
  k1_pay18 (k1_pay2 x1) (k1_pay3 x0) (k1_pay7 x2 x3 x4) (b127 x1 x2 x3 x4) (b130 x1 x2 x3 x4) (k1_pay15 (k1_pay2 x1)) z0 s1 s0

/-- The segment totals of `u·h·h`. -/
def bSh2 (x0 : Vec F S640x384 .f32) (x1 : Vec F S640x1 .i32) (x2 : Vec F S640x128 .f32) (x3 x4 : Vec F S640x1 .f32) (s0 : BitVec 32)
    (s1 : Vec F S1x384 .f32) : FVec F S640x128 .f32 :=
  k1_pay19 (k1_pay2 x1) (k1_pay3 x0) (k1_pay7 x2 x3 x4) (b127 x1 x2 x3 x4) (b130 x1 x2 x3 x4) (k1_pay15 (k1_pay2 x1)) z0 s1 s0

/-- The segment totals of `e`. -/
def bE (x0 : Vec F S640x384 .f32) (x1 : Vec F S640x1 .i32) (x2 : Vec F S640x128 .f32) (x3 x4 : Vec F S640x1 .f32) (s0 : BitVec 32)
    (s1 : Vec F S1x384 .f32) : FVec F S640x1 .f32 :=
  k1_pay20 (k1_pay2 x1) (k1_pay3 x0) (k1_pay7 x2 x3 x4) (b127 x1 x2 x3 x4) (b130 x1 x2 x3 x4) (k1_pay15 (k1_pay2 x1)) z0 s1 s0

/-- The segment totals of `u`. -/
def bU (x0 : Vec F S640x384 .f32) (x1 : Vec F S640x1 .i32) (x2 : Vec F S640x128 .f32) (x3 x4 : Vec F S640x1 .f32) (s0 : BitVec 32)
    (s1 : Vec F S1x384 .f32) : FVec F S640x1 .f32 :=
  k1_pay21 (k1_pay2 x1) (k1_pay3 x0) (k1_pay7 x2 x3 x4) (b127 x1 x2 x3 x4) (b130 x1 x2 x3 x4) (k1_pay15 (k1_pay2 x1)) z0 s1 s0

/-- The block of weights `u / max(U, 0.001·E)`. -/
def bRa (x0 : Vec F S640x384 .f32) (x1 : Vec F S640x1 .i32) (x2 : Vec F S640x128 .f32) (x3 x4 : Vec F S640x1 .f32) (s0 : BitVec 32)
    (s1 : Vec F S1x384 .f32) : FVec F S640x1 .f32 :=
  k1_pay23 (k1_pay6 x3 x4) (bE x0 x1 x2 x3 x4 s0 s1) (bU x0 x1 x2 x3 x4 s0 s1) zm

/-- The block of normalised features. -/
def bOut (x0 : Vec F S640x384 .f32) (x1 : Vec F S640x1 .i32) (x2 : Vec F S640x128 .f32) (x3 x4 : Vec F S640x1 .f32)
    (x5 : Vec F S128x128 .f32) (x6 x7 : Vec F S1x128 .f32) (s0 : BitVec 32) (s1 : Vec F S1x384 .f32) : FVec F S640x128 .f32 :=
  k1_pay24 (k1_pay4 x2) (bSh x0 x1 x2 x3 x4 s0 s1) (bSh2 x0 x1 x2 x3 x4 s0 s1) (bE x0 x1 x2 x3 x4 s0 s1) (bU x0 x1 x2 x3 x4 s0 s1) zm x5 x6 x7

/-- The branch of the body on the grid coordinate: taken at the first point. -/
abbrev cond1 (i : grid1.Coords) : Prop := (Scalar.cmpi .ne (Scalar.extui (Scalar.cmpi .eq (BitVec.ofNat 32 (i 0).val) 0#32)) 0#32) = 1#1

theorem hcond1 : ∀ t : Fin cfg1.N, cond1 (grid1.coords t) ↔ t.val = 0 :=
  (fun t => by
    have ht : t.val < 500 := Nat.lt_of_lt_of_eq t.isLt N_1
    have e0 : (grid1.coords t 0).val = t.val / 1 % 500 := Pipeline.Grid.coords_val t 0 (by decide) rfl
    simp only [cond1, e0]
    word_cmp
   : ∀ t : Fin grid1.N, cond1 (grid1.coords t) ↔ t.val = 0)

set_option maxHeartbeats 1000000 in
/-- The body past its first point: from the carried segment number and row to the results and the next carry. -/
theorem bwd_run_B (c : Dev nD) (i : grid1.Coords) (arg1 : Memref sig .tc .vmem S640x384 .f32) (harg1 : arg1.IsWhole) (arg2 : Memref sig .tc .vmem S640x1 .i32) (harg2 : arg2.IsWhole) (arg3 : Memref sig .tc .vmem S640x128 .f32) (harg3 : arg3.IsWhole) (arg4 : Memref sig .tc .vmem S640x1 .f32) (harg4 : arg4.IsWhole) (arg5 : Memref sig .tc .vmem S640x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S640x128 .f32) (harg9 : arg9.IsWhole) (arg10 : Memref sig .tc .vmem S640x1 .f32) (harg10 : arg10.IsWhole) (arg11 : Memref sig .tc .smem S1x1 .i32) (harg11 : arg11.IsWhole) (arg12 : Memref sig .tc .vmem S1x384 .f32) (harg12 : arg12.IsWhole) (hc0 : ¬cond1 i)
    (x0 : Vec F S640x384 .f32) (x1 : Vec F S640x1 .i32) (x2 : Vec F S640x128 .f32) (x3 : Vec F S640x1 .f32) (x4 : Vec F S640x1 .f32) (x5 : Vec F S128x128 .f32) (x6 : Vec F S1x128 .f32) (x7 : Vec F S1x128 .f32) (s0 : BitVec 32) (s1 : Vec F S1x384 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare (fun _ => s0 : Vec F S1x1 .i32) ∗ owns (c : Thread nD τ) arg12 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (bOut x0 x1 x2 x3 x4 x5 x6 x7 s0 s1) ∗ owns (c : Thread nD τ) arg10 fullShare (bRa x0 x1 x2 x3 x4 s0 s1) ∗ owns (c : Thread nD τ) arg11 fullShare (fun _ => firstIx x1 : Vec F S1x1 .i32) ∗ owns (c : Thread nD τ) arg12 fullShare (bRow x0 x1 x2 x3 x4 s0 s1)) -∗ K ⟨⟩))
          ⊢ wp frame (wpE (defs₀ (F := F)) Variants.none c none) E (cc1__bwd_kernel i arg1 harg1 arg2 harg2 arg3 harg3 arg4 harg4 arg5 harg5 arg6 harg6 arg7 harg7 arg8 harg8 arg9 harg9 arg10 harg10 arg11 harg11 arg12 harg12) K := by
    simp only [cc1__bwd_kernel_eq_skeleton]; unfold cc1__bwd_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    subst hf0 hf1 hf2 hf3 hf4 hf5 hf6 hf7 hfs1
    have e0 : View.readAt (Elt F) arg1.view (Rect.unit ![0, 0] ![640, 384] inb_S640x384_S640x384_0_0).toLoadRect f0 = View.read (Elt F) arg1.view f0 := View.readAt_full (s := S640x384) _ _ _
    have e1 : View.readAt (Elt F) arg2.view (Rect.unit ![0, 0] ![640, 1] inb_S640x1_S640x1_0_0).toLoadRect f1 = View.read (Elt F) arg2.view f1 := View.readAt_full (s := S640x1) _ _ _
    have e2 : View.readAt (Elt F) arg3.view (Rect.unit ![0, 0] ![640, 128] inb_S640x128_S640x128_0_0).toLoadRect f2 = View.read (Elt F) arg3.view f2 := View.readAt_full (s := S640x128) _ _ _
    have e3 : View.readAt (Elt F) arg4.view (Rect.unit ![0, 0] ![640, 1] inb_S640x1_S640x1_0_0).toLoadRect f3 = View.read (Elt F) arg4.view f3 := View.readAt_full (s := S640x1) _ _ _
    have e4 : View.readAt (Elt F) arg5.view (Rect.unit ![0, 0] ![640, 1] inb_S640x1_S640x1_0_0).toLoadRect f4 = View.read (Elt F) arg5.view f4 := View.readAt_full (s := S640x1) _ _ _
    have e5 : View.readAt (Elt F) arg6.view (Rect.unit ![0, 0] ![128, 128] inb_S128x128_S128x128_0_0).toLoadRect f5 = View.read (Elt F) arg6.view f5 := View.readAt_full (s := S128x128) _ _ _
    have e6 : View.readAt (Elt F) arg7.view (Rect.unit ![0, 0] ![1, 128] inb_S1x128_S1x128_0_0).toLoadRect f6 = View.read (Elt F) arg7.view f6 := View.readAt_full (s := S1x128) _ _ _
    have e7 : View.readAt (Elt F) arg8.view (Rect.unit ![0, 0] ![1, 128] inb_S1x128_S1x128_0_0).toLoadRect f7 = View.read (Elt F) arg8.view f7 := View.readAt_full (s := S1x128) _ _ _
    have es0 : View.readAt (Elt F) arg11.view (Rect.unit ![0, 0] ![1, 1] inb_S1x1_S1x1_0_0).toLoadRect fs0 = View.read (Elt F) arg11.view fs0 := View.readAt_full (s := S1x1) _ _ _
    have es1 : View.readAt (Elt F) arg12.view (Rect.unit ![0, 0] ![1, 384] inb_S1x384_S1x384_0_0).toLoadRect fs1 = View.read (Elt F) arg12.view fs1 := View.readAt_full (s := S1x384) _ _ _
    isplitl [H8]
    · iexists _; isplitr; swap; (· iexact H8); ipureintro
      refine (View.read_writes_full _ _ _ _ _).trans ?_
      delta bwd_run_B.sl.r_19 bwd_run_B.sl.r_18 bwd_run_B.sl.r_17 bwd_run_B.sl.r_16 bwd_run_B.sl.r_15 bwd_run_B.sl.r_14 bwd_run_B.sl.r_13 bwd_run_B.sl.r_12 bwd_run_B.sl.r_11 bwd_run_B.sl.r_10 bwd_run_B.sl.r_9 bwd_run_B.sl.r_8 bwd_run_B.sl.r_7 bwd_run_B.sl.r_6 bwd_run_B.sl.r_5 bwd_run_B.sl.r_4 bwd_run_B.sl.r_3 bwd_run_B.sl.r_2 bwd_run_B.sl.r_1 bwd_run_B.sl.r bwd_run_B.sl.cst_13 bwd_run_B.sl.cst_52 z0 zm bOut bSh bSh2 bE bU b127 b130 b79 b82
      simp only [e0, e1, e2, e3, e4, e5, e6, e7, es0, es1, hfs0]
    isplitl [H9]
    · iexists _; isplitr; swap; (· iexact H9); ipureintro
      refine (View.read_writes_full _ _ _ _ _).trans ?_
      delta bwd_run_B.sl.r_19 bwd_run_B.sl.r_18 bwd_run_B.sl.r_17 bwd_run_B.sl.r_16 bwd_run_B.sl.r_15 bwd_run_B.sl.r_14 bwd_run_B.sl.r_13 bwd_run_B.sl.r_12 bwd_run_B.sl.r_11 bwd_run_B.sl.r_10 bwd_run_B.sl.r_9 bwd_run_B.sl.r_8 bwd_run_B.sl.r_7 bwd_run_B.sl.r_6 bwd_run_B.sl.r_5 bwd_run_B.sl.r_4 bwd_run_B.sl.r_3 bwd_run_B.sl.r_2 bwd_run_B.sl.r_1 bwd_run_B.sl.r bwd_run_B.sl.cst_13 bwd_run_B.sl.cst_52 z0 zm bRa bE bU b127 b130 b79 b82
      simp only [e0, e1, e2, e3, e4, e5, e6, e7, es0, es1, hfs0]
    isplitl [HS0]
    · iexists _; isplitr; swap; (· iexact HS0); ipureintro
      refine (View.read_writes_full (s := S1x1) _ _ _ _ _).trans ?_
      funext x
      unfold firstIx
      show View.read (Elt F) arg2.view f1 _ = View.read (Elt F) arg2.view f1 _
      congr 1
      funext a
      fin_cases a <;> rfl
    iexists _; isplitr; swap; (· iexact HS1); ipureintro
    refine (View.read_writes_full _ _ _ _ _).trans ?_
    delta bwd_run_B.sl.r_19 bwd_run_B.sl.r_18 bwd_run_B.sl.r_17 bwd_run_B.sl.r_16 bwd_run_B.sl.r_15 bwd_run_B.sl.r_14 bwd_run_B.sl.r_13 bwd_run_B.sl.r_12 bwd_run_B.sl.r_11 bwd_run_B.sl.r_10 bwd_run_B.sl.r_9 bwd_run_B.sl.r_8 bwd_run_B.sl.r_7 bwd_run_B.sl.r_6 bwd_run_B.sl.r_5 bwd_run_B.sl.r_4 bwd_run_B.sl.r_3 bwd_run_B.sl.r_2 bwd_run_B.sl.r_1 bwd_run_B.sl.r bwd_run_B.sl.cst_13 bwd_run_B.sl.cst_52 z0 zm bRow b127 b130 b79 b82
    simp only [e0, e1, e2, e3, e4, e5, e6, e7, es0, es1, hfs0]

set_option maxHeartbeats 1000000 in
/-- The body at the first point: the carry is first set to the segment number −2 and the zero row. -/
theorem bwd_run_A (c : Dev nD) (i : grid1.Coords) (arg1 : Memref sig .tc .vmem S640x384 .f32) (harg1 : arg1.IsWhole) (arg2 : Memref sig .tc .vmem S640x1 .i32) (harg2 : arg2.IsWhole) (arg3 : Memref sig .tc .vmem S640x128 .f32) (harg3 : arg3.IsWhole) (arg4 : Memref sig .tc .vmem S640x1 .f32) (harg4 : arg4.IsWhole) (arg5 : Memref sig .tc .vmem S640x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S640x128 .f32) (harg9 : arg9.IsWhole) (arg10 : Memref sig .tc .vmem S640x1 .f32) (harg10 : arg10.IsWhole) (arg11 : Memref sig .tc .smem S1x1 .i32) (harg11 : arg11.IsWhole) (arg12 : Memref sig .tc .vmem S1x384 .f32) (harg12 : arg12.IsWhole) (hc0 : cond1 i)
    (x0 : Vec F S640x384 .f32) (x1 : Vec F S640x1 .i32) (x2 : Vec F S640x128 .f32) (x3 : Vec F S640x1 .f32) (x4 : Vec F S640x1 .f32) (x5 : Vec F S128x128 .f32) (x6 : Vec F S1x128 .f32) (x7 : Vec F S1x128 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (bOut x0 x1 x2 x3 x4 x5 x6 x7 4294967294#32 (k1_pay1 (F := F))) ∗ owns (c : Thread nD τ) arg10 fullShare (bRa x0 x1 x2 x3 x4 4294967294#32 (k1_pay1 (F := F))) ∗ owns (c : Thread nD τ) arg11 fullShare (fun _ => firstIx x1 : Vec F S1x1 .i32) ∗ owns (c : Thread nD τ) arg12 fullShare (bRow x0 x1 x2 x3 x4 4294967294#32 (k1_pay1 (F := F)))) -∗ K ⟨⟩))
          ⊢ wp frame (wpE (defs₀ (F := F)) Variants.none c none) E (cc1__bwd_kernel i arg1 harg1 arg2 harg2 arg3 harg3 arg4 harg4 arg5 harg5 arg6 harg6 arg7 harg7 arg8 harg8 arg9 harg9 arg10 harg10 arg11 harg11 arg12 harg12) K := by
    simp only [cc1__bwd_kernel_eq_skeleton]; unfold cc1__bwd_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, %hfs0, HS0⟩, ⟨%ds1, %fs1, %hfs1, HS1⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    subst hf0 hf1 hf2 hf3 hf4 hf5 hf6 hf7
    have e0 : View.readAt (Elt F) arg1.view (Rect.unit ![0, 0] ![640, 384] inb_S640x384_S640x384_0_0).toLoadRect f0 = View.read (Elt F) arg1.view f0 := View.readAt_full (s := S640x384) _ _ _
    have e1 : View.readAt (Elt F) arg2.view (Rect.unit ![0, 0] ![640, 1] inb_S640x1_S640x1_0_0).toLoadRect f1 = View.read (Elt F) arg2.view f1 := View.readAt_full (s := S640x1) _ _ _
    have e2 : View.readAt (Elt F) arg3.view (Rect.unit ![0, 0] ![640, 128] inb_S640x128_S640x128_0_0).toLoadRect f2 = View.read (Elt F) arg3.view f2 := View.readAt_full (s := S640x128) _ _ _
    have e3 : View.readAt (Elt F) arg4.view (Rect.unit ![0, 0] ![640, 1] inb_S640x1_S640x1_0_0).toLoadRect f3 = View.read (Elt F) arg4.view f3 := View.readAt_full (s := S640x1) _ _ _
    have e4 : View.readAt (Elt F) arg5.view (Rect.unit ![0, 0] ![640, 1] inb_S640x1_S640x1_0_0).toLoadRect f4 = View.read (Elt F) arg5.view f4 := View.readAt_full (s := S640x1) _ _ _
    have e5 : View.readAt (Elt F) arg6.view (Rect.unit ![0, 0] ![128, 128] inb_S128x128_S128x128_0_0).toLoadRect f5 = View.read (Elt F) arg6.view f5 := View.readAt_full (s := S128x128) _ _ _
    have e6 : View.readAt (Elt F) arg7.view (Rect.unit ![0, 0] ![1, 128] inb_S1x128_S1x128_0_0).toLoadRect f6 = View.read (Elt F) arg7.view f6 := View.readAt_full (s := S1x128) _ _ _
    have e7 : View.readAt (Elt F) arg8.view (Rect.unit ![0, 0] ![1, 128] inb_S1x128_S1x128_0_0).toLoadRect f7 = View.read (Elt F) arg8.view f7 := View.readAt_full (s := S1x128) _ _ _
    have hv : bwd_run_A.sl.v154 (F := F) c arg12 = k1_pay1 := by
      delta bwd_run_A.sl.v154
      exact View.readCov_full (s := S1x384) _ _ _ _ _
    isplitl [H8]
    · iexists _; isplitr; swap; (· iexact H8); ipureintro
      refine (View.read_writes_full _ _ _ _ _).trans ?_
      delta bwd_run_A.sl.r_19 bwd_run_A.sl.r_18 bwd_run_A.sl.r_17 bwd_run_A.sl.r_16 bwd_run_A.sl.r_15 bwd_run_A.sl.r_14 bwd_run_A.sl.r_13 bwd_run_A.sl.r_12 bwd_run_A.sl.r_11 bwd_run_A.sl.r_10 bwd_run_A.sl.r_9 bwd_run_A.sl.r_8 bwd_run_A.sl.r_7 bwd_run_A.sl.r_6 bwd_run_A.sl.r_5 bwd_run_A.sl.r_4 bwd_run_A.sl.r_3 bwd_run_A.sl.r_2 bwd_run_A.sl.r_1 bwd_run_A.sl.r bwd_run_A.sl.cst_13 bwd_run_A.sl.cst_52 z0 zm bOut bSh bSh2 bE bU b127 b130 b79 b82
      simp only [e0, e1, e2, e3, e4, e5, e6, e7, hv]
    isplitl [H9]
    · iexists _; isplitr; swap; (· iexact H9); ipureintro
      refine (View.read_writes_full _ _ _ _ _).trans ?_
      delta bwd_run_A.sl.r_19 bwd_run_A.sl.r_18 bwd_run_A.sl.r_17 bwd_run_A.sl.r_16 bwd_run_A.sl.r_15 bwd_run_A.sl.r_14 bwd_run_A.sl.r_13 bwd_run_A.sl.r_12 bwd_run_A.sl.r_11 bwd_run_A.sl.r_10 bwd_run_A.sl.r_9 bwd_run_A.sl.r_8 bwd_run_A.sl.r_7 bwd_run_A.sl.r_6 bwd_run_A.sl.r_5 bwd_run_A.sl.r_4 bwd_run_A.sl.r_3 bwd_run_A.sl.r_2 bwd_run_A.sl.r_1 bwd_run_A.sl.r bwd_run_A.sl.cst_13 bwd_run_A.sl.cst_52 z0 zm bRa bE bU b127 b130 b79 b82
      simp only [e0, e1, e2, e3, e4, e5, e6, e7, hv]
    isplitl [HS0]
    · iexists _; isplitr; swap; (· iexact HS0); ipureintro
      refine (View.read_writes_full (s := S1x1) _ _ _ _ _).trans ?_
      funext x
      unfold firstIx
      show View.read (Elt F) arg2.view f1 _ = View.read (Elt F) arg2.view f1 _
      congr 1
      funext a
      fin_cases a <;> rfl
    iexists _; isplitr; swap; (· iexact HS1); ipureintro
    refine (View.read_writes_full _ _ _ _ _).trans ?_
    delta bwd_run_A.sl.r_19 bwd_run_A.sl.r_18 bwd_run_A.sl.r_17 bwd_run_A.sl.r_16 bwd_run_A.sl.r_15 bwd_run_A.sl.r_14 bwd_run_A.sl.r_13 bwd_run_A.sl.r_12 bwd_run_A.sl.r_11 bwd_run_A.sl.r_10 bwd_run_A.sl.r_9 bwd_run_A.sl.r_8 bwd_run_A.sl.r_7 bwd_run_A.sl.r_6 bwd_run_A.sl.r_5 bwd_run_A.sl.r_4 bwd_run_A.sl.r_3 bwd_run_A.sl.r_2 bwd_run_A.sl.r_1 bwd_run_A.sl.r bwd_run_A.sl.cst_13 bwd_run_A.sl.cst_52 z0 zm bRow b127 b130 b79 b82
    simp only [e0, e1, e2, e3, e4, e5, e6, e7, hv]

end Cert.KernelIdeal.Hand

end
-- ==== Proof.KI.BwdRegion.lean ====
/-
  The backward kernel's region: what its scratch carries from one grid point to the next, the pipeline's proof data
  over the contents the region finds, and the body obligation at every grid point.
-/
module

public import proofs.«01_k».proof.Proof.KI.BwdBody
public import Idealize.ShloMosaic.Lib.Pipeline.RegionArraysS
public import Idealize.ShloMosaic.Lib.Pipeline.FrameTail

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off the contents the region finds. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What the scratch carries into point `n`: the first row's segment number and the first row of the totals. -/
def carry1 (c : Dev nD) : ℕ → BitVec 32 × Vec F S1x384 .f32
  | 0 => (4294967294#32, k1_pay1)
  | n + 1 => if h : n < cfg1.N then
      (firstIx (iblk1 W c 1 ⟨n, h⟩), bRow (iblk1 W c 0 ⟨n, h⟩) (iblk1 W c 1 ⟨n, h⟩) (iblk1 W c 2 ⟨n, h⟩) (iblk1 W c 3 ⟨n, h⟩) (iblk1 W c 4 ⟨n, h⟩) (carry1 c n).1 (carry1 c n).2)
    else carry1 c n

/-- The carry after a grid point, from the carry before it. -/
theorem carry1_succ (c : Dev nD) (t : Fin cfg1.N) : carry1 W c (t.val + 1)
    = (firstIx (iblk1 W c 1 t), bRow (iblk1 W c 0 t) (iblk1 W c 1 t) (iblk1 W c 2 t) (iblk1 W c 3 t) (iblk1 W c 4 t) (carry1 W c t.val).1 (carry1 W c t.val).2) := by
  show (if h : t.val < cfg1.N then _ else _) = _
  rw [dif_pos t.isLt]

/-- The scratch buffer of the carried segment number. -/
abbrev scN1 : Memref sig .tc .smem S1x1 .i32 := Memref.whole cc1_scratch0
/-- The scratch buffer of the carried row. -/
abbrev scR1 : Memref sig .tc .vmem S1x384 .f32 := Memref.whole cc1_scratch1

/-- Every scoped buffer that is neither staged here nor this kernel's scratch, at some contents. -/
def others1 (c : Dev nD) : sProp 𝕄 :=
  Pipeline.scopedRestBut (Ix := Unit) (Name := ℕ) (U := UR sig nD τ) (Lvl := ℕ) (Val := Elt F) spec1 c [cc1_scratch1, cc1_scratch0]

/-- The scoped buffers the pipeline does not stage are the two scratch buffers and the others. -/
theorem scoped1_split (c : Dev nD) :
    (Pipeline.scopedRest (Ix := Unit) (Name := ℕ) (U := UR sig nD τ) (Lvl := ℕ) (Val := Elt F) spec1 c : sProp 𝕄)
      = iprop(((∃ d, owns (c : Thread nD τ) scR1 fullShare d) ∗ (∃ d, owns (c : Thread nD τ) scN1 fullShare d)) ∗ others1 c) := by
  rw [Pipeline.scopedRest_split_of_list spec1 c [cc1_scratch1, cc1_scratch0] (by decide) (by decide)]
  simp only [scN1, scR1, owns_whole]
  rfl

/-- The region's invariant before point `n`: at the start every unstaged scoped buffer at some contents; later the
    scratch at the carry. -/
def Phi1 (c : Dev nD) : ℕ → sProp 𝕄
  | 0 => Pipeline.scopedRest (Ix := Unit) (Name := ℕ) (U := UR sig nD τ) (Lvl := ℕ) (Val := Elt F) spec1 c
  | n + 1 => iprop((owns (c : Thread nD τ) scR1 fullShare (carry1 W c (n + 1)).2
      ∗ owns (c : Thread nD τ) scN1 fullShare (fun _ => (carry1 W c (n + 1)).1 : Vec F S1x1 .i32)) ∗ others1 c)

/-- The invariant before the first point. -/
theorem Phi1_zero (c : Dev nD) (n : ℕ) (h : n = 0) : Phi1 W c n
    = iprop(((∃ d, owns (c : Thread nD τ) scR1 fullShare d) ∗ (∃ d, owns (c : Thread nD τ) scN1 fullShare d)) ∗ others1 c) := by
  subst h; exact scoped1_split c

/-- The invariant before any other point. -/
theorem Phi1_pos (c : Dev nD) (n : ℕ) (h : n ≠ 0) : Phi1 W c n
    = iprop((owns (c : Thread nD τ) scR1 fullShare (carry1 W c n).2
      ∗ owns (c : Thread nD τ) scN1 fullShare (fun _ => (carry1 W c n).1 : Vec F S1x1 .i32)) ∗ others1 c) := by
  obtain ⟨n, rfl⟩ := Nat.exists_eq_succ_of_ne_zero h
  rfl

/-- The pipeline's proof data: every input's block stays, every result's block is the body's value at the carry. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => iblk1 W c 7 t
    | ⟨8, _⟩ => bOut (iblk1 W c 0 t) (iblk1 W c 1 t) (iblk1 W c 2 t) (iblk1 W c 3 t) (iblk1 W c 4 t) (iblk1 W c 5 t) (iblk1 W c 6 t) (iblk1 W c 7 t) (carry1 W c t.val).1 (carry1 W c t.val).2
    | ⟨9, _⟩ => bRa (iblk1 W c 0 t) (iblk1 W c 1 t) (iblk1 W c 2 t) (iblk1 W c 3 t) (iblk1 W c 4 t) (carry1 W c t.val).1 (carry1 W c t.val).2
  Φ t := Phi1 W c t.val
  q _ := fullShare
  owed _ := 0

/-- The arrays enter at the contents the region finds. -/
theorem A1_eq (c : Dev nD) (w : Fin cfg1.W) : (dat1 W c).A w = W c (Proc.devRef .tc (Pipeline.arrRef spec1 w)) := by
  dsimp only [dat1]

/-! ## What the body finds and leaves, window by window -/

theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = iblk1 W c 6 t := by dsimp only [dat1]
theorem after1_7 (c : Dev nD) (t : Fin cfg1.N) : (dat1 W c).after 7 t = iblk1 W c 7 t := by dsimp only [dat1]
theorem after1_8 (c : Dev nD) (t : Fin cfg1.N) : (dat1 W c).after 8 t = bOut (iblk1 W c 0 t) (iblk1 W c 1 t) (iblk1 W c 2 t) (iblk1 W c 3 t) (iblk1 W c 4 t) (iblk1 W c 5 t) (iblk1 W c 6 t) (iblk1 W c 7 t) (carry1 W c t.val).1 (carry1 W c t.val).2 := by dsimp only [dat1]
theorem after1_9 (c : Dev nD) (t : Fin cfg1.N) : (dat1 W c).after 9 t = bRa (iblk1 W c 0 t) (iblk1 W c 1 t) (iblk1 W c 2 t) (iblk1 W c 3 t) (iblk1 W c 4 t) (carry1 W c t.val).1 (carry1 W c t.val).2 := by dsimp only [dat1]
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A1_eq]) t d).trans
    (by unfold Dat.fetched Dat.blockOf iblk1; rw [A1_eq]; rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A1_eq]) t d).trans
    (by unfold Dat.fetched Dat.blockOf iblk1; rw [A1_eq]; rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A1_eq]) t d).trans
    (by unfold Dat.fetched Dat.blockOf iblk1; rw [A1_eq]; rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A1_eq]) t d).trans
    (by unfold Dat.fetched Dat.blockOf iblk1; rw [A1_eq]; rfl)
theorem before1_4 (c : Dev nD) (t : Fin cfg1.N) (d) : (dat1 W c).before 4 t d = iblk1 W c 4 t :=
  ((dat1 W c).before_in_eq_fetched 4 rfl (fun _ => rfl) (fun _ _ _ => rfl) (fun t => by rw [after1_4]; unfold Dat.blockOf iblk1; rw [A1_eq]) t d).trans
    (by unfold Dat.fetched Dat.blockOf iblk1; rw [A1_eq]; rfl)
theorem before1_5 (c : Dev nD) (t : Fin cfg1.N) (d) : (dat1 W c).before 5 t d = iblk1 W c 5 t :=
  ((dat1 W c).before_in_eq_fetched 5 rfl (fun _ => rfl) (fun _ _ _ => rfl) (fun t => by rw [after1_5]; unfold Dat.blockOf iblk1; rw [A1_eq]) t d).trans
    (by unfold Dat.fetched Dat.blockOf iblk1; rw [A1_eq]; rfl)
theorem before1_6 (c : Dev nD) (t : Fin cfg1.N) (d) : (dat1 W c).before 6 t d = iblk1 W c 6 t :=
  ((dat1 W c).before_in_eq_fetched 6 rfl (fun _ => rfl) (fun _ _ _ => rfl) (fun t => by rw [after1_6]; unfold Dat.blockOf iblk1; rw [A1_eq]) t d).trans
    (by unfold Dat.fetched Dat.blockOf iblk1; rw [A1_eq]; rfl)
theorem before1_7 (c : Dev nD) (t : Fin cfg1.N) (d) : (dat1 W c).before 7 t d = iblk1 W c 7 t :=
  ((dat1 W c).before_in_eq_fetched 7 rfl (fun _ => rfl) (fun _ _ _ => rfl) (fun t => by rw [after1_7]; unfold Dat.blockOf iblk1; rw [A1_eq]) t d).trans
    (by unfold Dat.fetched Dat.blockOf iblk1; rw [A1_eq]; rfl)

/-- Window 0's current staging buffer. -/
abbrev stg1_0 (t : Fin cfg1.N) := win1_0.stage (cfg1.slots t 0)
/-- Window 1's current staging buffer. -/
abbrev stg1_1 (t : Fin cfg1.N) := win1_1.stage (cfg1.slots t 1)
/-- Window 2's current staging buffer. -/
abbrev stg1_2 (t : Fin cfg1.N) := win1_2.stage (cfg1.slots t 2)
/-- Window 3's current staging buffer. -/
abbrev stg1_3 (t : Fin cfg1.N) := win1_3.stage (cfg1.slots t 3)
/-- Window 4's current staging buffer. -/
abbrev stg1_4 (t : Fin cfg1.N) := win1_4.stage (cfg1.slots t 4)
/-- Window 5's current staging buffer. -/
abbrev stg1_5 (t : Fin cfg1.N) := win1_5.stage (cfg1.slots t 5)
/-- Window 6's current staging buffer. -/
abbrev stg1_6 (t : Fin cfg1.N) := win1_6.stage (cfg1.slots t 6)
/-- Window 7's current staging buffer. -/
abbrev stg1_7 (t : Fin cfg1.N) := win1_7.stage (cfg1.slots t 7)
/-- Window 8's current staging buffer. -/
abbrev stg1_8 (t : Fin cfg1.N) := win1_8.stage (cfg1.slots t 8)
/-- Window 9's current staging buffer. -/
abbrev stg1_9 (t : Fin cfg1.N) := win1_9.stage (cfg1.slots t 9)
/-- What the body is called with at point `t`, -/
def pre1 (c : Dev nD) (t : Fin cfg1.N) : sProp 𝕄 :=
  iprop((dat1 W c).Φ t.castSucc ∗ (dat1 W c).owesAt () t.castSucc
    ∗ (∃ d, owns (c : Thread nD τ) (stg1_0 t) fullShare ((dat1 W c).before 0 t d))
    ∗ (∃ d, owns (c : Thread nD τ) (stg1_1 t) fullShare ((dat1 W c).before 1 t d))
    ∗ (∃ d, owns (c : Thread nD τ) (stg1_2 t) fullShare ((dat1 W c).before 2 t d))
    ∗ (∃ d, owns (c : Thread nD τ) (stg1_3 t) fullShare ((dat1 W c).before 3 t d))
    ∗ (∃ d, owns (c : Thread nD τ) (stg1_4 t) fullShare ((dat1 W c).before 4 t d))
    ∗ (∃ d, owns (c : Thread nD τ) (stg1_5 t) fullShare ((dat1 W c).before 5 t d))
    ∗ (∃ d, owns (c : Thread nD τ) (stg1_6 t) fullShare ((dat1 W c).before 6 t d))
    ∗ (∃ d, owns (c : Thread nD τ) (stg1_7 t) fullShare ((dat1 W c).before 7 t d))
    ∗ (∃ d, owns (c : Thread nD τ) (stg1_8 t) fullShare ((dat1 W c).before 8 t d))
    ∗ (∃ d, owns (c : Thread nD τ) (stg1_9 t) fullShare ((dat1 W c).before 9 t d)))

/-- and what it leaves. -/
def post1 (c : Dev nD) (t : Fin cfg1.N) : sProp 𝕄 :=
  iprop((dat1 W c).Φ t.succ ∗ (dat1 W c).owesAt () t.succ
    ∗ owns (c : Thread nD τ) (stg1_0 t) fullShare ((dat1 W c).after 0 t)
    ∗ owns (c : Thread nD τ) (stg1_1 t) fullShare ((dat1 W c).after 1 t)
    ∗ owns (c : Thread nD τ) (stg1_2 t) fullShare ((dat1 W c).after 2 t)
    ∗ owns (c : Thread nD τ) (stg1_3 t) fullShare ((dat1 W c).after 3 t)
    ∗ owns (c : Thread nD τ) (stg1_4 t) fullShare ((dat1 W c).after 4 t)
    ∗ owns (c : Thread nD τ) (stg1_5 t) fullShare ((dat1 W c).after 5 t)
    ∗ owns (c : Thread nD τ) (stg1_6 t) fullShare ((dat1 W c).after 6 t)
    ∗ owns (c : Thread nD τ) (stg1_7 t) fullShare ((dat1 W c).after 7 t)
    ∗ owns (c : Thread nD τ) (stg1_8 t) fullShare ((dat1 W c).after 8 t)
    ∗ owns (c : Thread nD τ) (stg1_9 t) fullShare ((dat1 W c).after 9 t))

set_option maxHeartbeats 4000000 in
/-- The body at any grid point: it finds the inputs' blocks and the carry, and leaves the results' blocks and the next carry. -/
theorem sound1 (c : Dev nD) (t : Fin cfg1.N) :
    pre1 W c t ⊢ wp frame (wpE (defs₀ (F := F)) Variants.none c none) Set.univ (bodyAt1 t) (fun _ => post1 W c t) := by
  unfold pre1 post1 bodyAt1
  simp only [before1_0, before1_1, before1_2, before1_3, before1_4, before1_5, before1_6, before1_7]
  rw [show (dat1 W c).owesAt () t.succ = (dat1 W c).owesAt () t.castSucc from rfl,
    after1_0, after1_1, after1_2, after1_3, after1_4, after1_5, after1_6, after1_7, after1_8, after1_9]
  rw [show (dat1 W c).Φ t.succ = Phi1 W c (t.val + 1) from rfl, Phi1_pos W c _ (Nat.succ_ne_zero _), carry1_succ]
  by_cases h0 : t.val = 0
  · rw [show (dat1 W c).Φ t.castSucc = Phi1 W c t.val from rfl, Phi1_zero W c _ h0]
    rw [show carry1 W c t.val = (4294967294#32, k1_pay1) from by rw [h0]; rfl]
    iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bwd_run_A c (grid1.coords t) _ _ _ _ _ _ _ _ _ _ _ _ _ _ _ _ _ _ _ _ _ _ _ _ ((hcond1 t).mpr h0) (iblk1 W c 0 t) (iblk1 W c 1 t) (iblk1 W c 2 t) (iblk1 W c 3 t) (iblk1 W c 4 t) (iblk1 W c 5 t) (iblk1 W c 6 t) (iblk1 W c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS1 HS0 Hg]
    · isplitl [HS1 HS0]
      · isplitl [HS1]
        · iexact HS1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dat1 W c).Φ t.castSucc = Phi1 W c t.val from rfl, Phi1_pos W c _ h0]
    iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bwd_run_B c (grid1.coords t) _ _ _ _ _ _ _ _ _ _ _ _ _ _ _ _ _ _ _ _ _ _ _ _ (fun h => h0 ((hcond1 t).mp h)) (iblk1 W c 0 t) (iblk1 W c 1 t) (iblk1 W c 2 t) (iblk1 W c 3 t) (iblk1 W c 4 t) (iblk1 W c 5 t) (iblk1 W c 6 t) (iblk1 W c 7 t) (carry1 W c t.val).1 (carry1 W c t.val).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS1 HS0 Hg]
    · isplitl [HS1 HS0]
      · isplitl [HS1]
        · iexact HS1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t` is the body at `t`. -/
theorem defs1_row (t : Fin cfg1.N) :
    defs₀ (F := F) .tc cfg1.body (cfg1.bodyArgs t (cfg1.slots t)) = bodyAt1 t := by
  unfold defs₀; rw [Defs.onTc_tc]

/-- The pipeline's body obligation at every point. -/
theorem obligation1 (c : Dev nD) : BodyObligation (dat1 W c) (defs₀ (F := F)) Variants.none () Set.univ := fun t => by
  rw [bigSep_W1, bigSep_W1, defs1_row]
  exact triple_restated (sound1 W c t) rfl .rfl fun _ => .rfl

/-- The unstaged scoped buffers give the invariant before the first point. -/
theorem hin1 (c : Dev nD) : iprop(Pipeline.scopedRest (Ix := Unit) (Name := ℕ) (U := UR sig nD τ) (Lvl := ℕ) (Val := Elt F) spec1 c ∗ (BI.emp : sProp 𝕄)) ⊢ (dat1 W c).Φ 0 := by
  rw [show (dat1 W c).Φ 0 = Pipeline.scopedRest (Ix := Unit) (Name := ℕ) (U := UR sig nD τ) (Lvl := ℕ) (Val := Elt F) spec1 c from rfl]
  iintro ⟨H, -⟩
  iexact H

/-- The invariant after the last point gives them back. -/
theorem hout1 (c : Dev nD) : (dat1 W c).Φ (Fin.last cfg1.N) ⊢ iprop(Pipeline.scopedRest (Ix := Unit) (Name := ℕ) (U := UR sig nD τ) (Lvl := ℕ) (Val := Elt F) spec1 c ∗ (BI.emp : sProp 𝕄)) := by
  rw [show (dat1 W c).Φ (Fin.last cfg1.N) = Phi1 W c cfg1.N from rfl, Phi1_pos W c _ (by rw [show cfg1.N = 500 from N_1]; decide), scoped1_split]
  iintro ⟨⟨HS1, HS0⟩, Hg⟩
  isplitl
  · isplitl [HS1 HS0]
    · isplitl [HS1]
      · iexists _; iexact HS1
      iexists _; iexact HS0
    iexact Hg
  iempintro

end Cert.KernelIdeal.Hand

end
-- ==== Proof.KI.Run.lean ====
/-
  The whole program's run: the host operations, the forward region and the backward region, one after another; every
  buffer's contents at the end as a valuation, from which the arguments and the two results are read.
-/
module

public import proofs.«01_k».proof.Proof.KI.FwdRegion
public import proofs.«01_k».proof.Proof.KI.BwdRegion
public import proofs.«01_k».proof.Proof.Gen.KernelIdeal.Regions

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer's contents after the forward region, -/
def W4 (c : Dev nD) : Valuation τ sig (Elt F) := Pipeline.afterRegion (dat0 (V3 m) c) (V3 m c)
/-- and after the backward region. -/
def W5 (c : Dev nD) : Valuation τ sig (Elt F) := Pipeline.afterRegion (dat1 (W4 m) c) (W4 m c)

/-- The two pipelines' proof data. -/
def pdats : (p : Fin 2) → (c : Dev nD) → Dat τ (Elt F) Unit ℕ (UR sig nD τ) ℕ (cfgs p) c
  | 0, c => dat0 (V3 m) c
  | 1, c => dat1 (W4 m) c

/-- Every TensorCore cell has the one level. -/
abbrev L : GSem nD τ sig → Finset Unit := fun g => if g.1.2 = .tc then Finset.univ else ∅
/-- The one level. -/
abbrev lv : GSem nD τ sig → Unit → ℕ := fun _ _ => 0

/-- Nothing is owed, so every wait may be made. -/
theorem cut (p : Fin 2) : Pipeline.LevelCut (pcfgs (F := F)) adm () L lv p (fun _ : Dev nD => (0 : CellTallies nD τ sig Unit)) (fun _ => 0) :=
  ⟨fun c w s => by show () ∈ (if _ then _ else _); rw [if_pos rfl]; exact Finset.mem_univ _, fun _ _ _ => le_refl _, fun c g i h => absurd h (Nat.lt_irrefl 0)⟩

set_option backward.isDefEq.respectTransparency.types false in
/-- The forward region, entered from every unscoped buffer at the host operations' results. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => BI.emp) (fun _ => BI.emp) launch0.toP rfl (fun c => (obligation0 (V3 m) c).loose) (fun _ _ => rfl) (fun _ => rfl)
    (fun c => (dat0 (V3 m) c).share_full fun _ => rfl) (hin0 (V3 m)) (hout0 (V3 m)) (fun _ => 0) (cut 0) (fun _ => BI.emp)
    (V3 m) (fun _ _ => rfl)

set_option backward.isDefEq.respectTransparency.types false in
/-- The backward region, entered from every unscoped buffer as the forward region leaves it. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => BI.emp) (fun _ => BI.emp) launch1.toP rfl (fun c => (obligation1 (W4 m) c).loose) (fun _ _ => rfl) (fun _ => rfl)
    (fun c => (dat1 (W4 m) c).share_full fun _ => rfl) (hin1 (W4 m)) (hout1 (W4 m)) (fun _ => 0) (cut 1) (fun _ => BI.emp)
    (W4 m) (fun _ _ => rfl)

/-- What rides beside the buffers between the items: the core owes nothing. -/
abbrev Eow (_ : Fin 3) (c : Dev nD) : sProp 𝕄 := iprop(∃ Wd, owes (c : Thread nD τ) (0 : CellTallies nD τ sig Unit) Wd)

/-- The arrays of region 0 are unscoped. -/
theorem sub0 : Pipeline.arrRefs (τ := τ) spec0 ⊆ Pipeline.ucRefs τ sig := Pipeline.arrRefs_sub_ucRefs spec0 (by decide)
/-- The arrays of region 1 are unscoped. -/
theorem sub1 : Pipeline.arrRefs (τ := τ) spec1 ⊆ Pipeline.ucRefs τ sig := Pipeline.arrRefs_sub_ucRefs spec1 (by decide)

/-- Into the forward region. -/
theorem pre_0 (c : Dev nD) : iprop(StableHlo.held (c : Thread nD τ) (Pipeline.ucRefs τ sig) (V3 m c) ∗ Eow 0 c) ⊢ (reg0 m).pre c := by
  unfold reg0
  refine BIBase.Entails.trans ?_ (RegionSeg.ofHeldIn_pre (pcs := pcfgs (F := F)) (p := 0) sub0 c)
  iintro ⟨H, HO⟩
  isplitl [H]; · iexact H
  isplitl [HO]; · iexact HO
  isplitl <;> iempintro

/-- Out of the forward region. -/
theorem post_0 (c : Dev nD) : (reg0 m).post c ⊢ iprop(StableHlo.held (c : Thread nD τ) (Pipeline.ucRefs τ sig) (W4 m c) ∗ Eow 1 c) := by
  unfold reg0
  refine BIBase.Entails.trans (RegionSeg.ofHeldIn_post (pcs := pcfgs (F := F)) (p := 0) sub0 c) ?_
  iintro ⟨H, HO, -, -⟩
  isplitl [H]; · iexact H
  iexact HO

/-- Into the backward region. -/
theorem pre_1 (c : Dev nD) : iprop(StableHlo.held (c : Thread nD τ) (Pipeline.ucRefs τ sig) (W4 m c) ∗ Eow 1 c) ⊢ (reg1 m).pre c := by
  unfold reg1
  refine BIBase.Entails.trans ?_ (RegionSeg.ofHeldIn_pre (pcs := pcfgs (F := F)) (p := 1) sub1 c)
  iintro ⟨H, HO⟩
  isplitl [H]; · iexact H
  isplitl [HO]; · iexact HO
  isplitl <;> iempintro

/-- Out of the backward region. -/
theorem post_1 (c : Dev nD) : (reg1 m).post c ⊢ iprop(StableHlo.held (c : Thread nD τ) (Pipeline.ucRefs τ sig) (W5 m c) ∗ Eow 2 c) := by
  unfold reg1
  refine BIBase.Entails.trans (RegionSeg.ofHeldIn_post (pcs := pcfgs (F := F)) (p := 1) sub1 c) ?_
  iintro ⟨H, HO, -, -⟩
  isplitl [H]; · iexact H
  iexact HO

set_option backward.isDefEq.respectTransparency.types false in
/-- The program runs to the end; every unscoped buffer then holds what `W5` says, and every semaphore counter is zero. -/
theorem run : θ_run defs (onTc (τ := τ) (main (F := F))) ⟨m, fun _ => 0, ρ⟩ (fun r =>
    (∀ (c : Dev nD) (b : Ref sig .tc), b.isScoped = false → r.2.mem ((c.tc : Thread nD τ).loc b) = W5 m c (Proc.devRef .tc b))
      ∧ r.2.sem = fun _ => 0) := by
  refine Pipeline.θ_run_regions_kit_dev_sems (pcfgs (F := F)) adm (pdats m) () cellOf_inj emb₁ defs₀ Variants.none L lv m ρ main
    (segs m Variants.none L lv Eow () (pdats m) (reg0 m) (reg1 m))
    (fun c Q => by
      rewrite [main_chain c, Seg.run_eq_chain,
        show (segs m Variants.none L lv Eow () (pdats m) (reg0 m) (reg1 m) c).map Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g h => if_neg h) (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ Eow 0 c))
    (Tₙ := fun c => StableHlo.held (c : Thread nD τ) (Pipeline.ucRefs τ sig) (W5 m c))
    (hch := fun c => ⟨.rfl, .rfl, .rfl, pre_0 m c, (post_0 m c).trans (pre_1 m c), post_1 m c⟩)
    (hinit := ?_)
    (QY := fun c s => ∀ b : Ref sig .tc, b.isScoped = false → s.mem ((c.tc : Thread nD τ).loc b) = W5 m c (Proc.devRef .tc b))
    (hfin := fun c s' => ?_) (hQ := fun _ h hz => ⟨h, funext fun g => hz g (.inr (regions_no_unscoped g.2))⟩)
  · iintro Hu
    imodintro
    isplitl [Hu]
    · ihave H := (show (ownU (initOf (Pipeline.cells cfgs cellOf_inj) (Pipeline.launchToks cfgs cellOf_inj)) : sProp 𝕄) ⊢ BI.own (emb₁ (initOf (Pipeline.cells (Pipeline.pin (pcfgs (F := F)) adm) cellOf_inj) (Pipeline.launchToks (Pipeline.pin (pcfgs (F := F)) adm) cellOf_inj))) from .rfl) $$ Hu
      iexact H
    iapply (show (BI.emp : sProp 𝕄) ⊢ bigSep Finset.univ (fun _ : Dev nD => (BI.emp : sProp 𝕄)) from by rw [BI.bigSep_emp_const])
    iempintro
  · refine Pipeline.initEach L lv fun c => ?_
    rw [Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    iexact HSI

/-- A buffer that no host operation and no region writes holds at the end what it held at launch. -/
theorem W5_of (c : Dev nD) (b : Ref sig .tc) (h0 : b ∉ hostOps0_W) (h1 : b ∉ hostOps0_1_W) (h2 : b ∉ hostOps0_2_W)
    (h3 : ∀ w, Pipeline.arrRef spec0 w = b → (cfg0.win w).isOut = false) (h4 : ∀ w, Pipeline.arrRef spec1 w = b → (cfg1.win w).isOut = false) :
    W5 m c (Proc.devRef .tc b) = m ((c : Thread nD τ).loc b) :=
  (Pipeline.afterRegion_keeps (dat1 (W4 m) c) (W4 m c) launch1.win.arr_inj (fun _ => rfl) b h4).trans <|
  (Pipeline.afterRegion_keeps (dat0 (V3 m) c) (V3 m c) launch0.win.arr_inj (fun _ => rfl) b h3).trans <|
  (V3_of m c b h2).trans <| (V2_of m c b h1).trans <| (V1_of m c b h0).trans rfl

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨(h.1 c main_arg0 rfl).trans (W5_of m c main_arg0 (by decide) (by decide) (by decide) (by decide) (by decide)),
     (h.1 c main_arg1 rfl).trans (W5_of m c main_arg1 (by decide) (by decide) (by decide) (by decide) (by decide)),
     (h.1 c main_arg2 rfl).trans (W5_of m c main_arg2 (by decide) (by decide) (by decide) (by decide) (by decide)),
     (h.1 c main_arg3 rfl).trans (W5_of m c main_arg3 (by decide) (by decide) (by decide) (by decide) (by decide)),
     (h.1 c main_arg4 rfl).trans (W5_of m c main_arg4 (by decide) (by decide) (by decide) (by decide) (by decide)),
     (h.1 c main_arg5 rfl).trans (W5_of m c main_arg5 (by decide) (by decide) (by decide) (by decide) (by decide)),
     (h.1 c main_arg6 rfl).trans (W5_of m c main_arg6 (by decide) (by decide) (by decide) (by decide) (by decide)),
     (h.1 c main_arg7 rfl).trans (W5_of m c main_arg7 (by decide) (by decide) (by decide) (by decide) (by decide)),
     (h.1 c main_arg8 rfl).trans (W5_of m c main_arg8 (by decide) (by decide) (by decide) (by decide) (by decide))⟩, h.2⟩) (run m ρ)

end Cert.KernelIdeal.Hand

end
-- ==== Proof.Val.HostPre.lean ====
/- What the host operations before the kernels leave: the arguments' reshapes and the channel groups' indicator. -/
module

public import proofs.«01_k».proof.Proof.KI.Run
public import Idealize.ShloMosaic.Lib.Pipeline.ValueKit
public import Idealize.ShloMosaic.Lib.Pointwise

@[expose] public section
set_option maxRecDepth 16384
noncomputable section
namespace Cert.Val
open Cert.KernelIdeal Cert.KernelIdeal.Gen Cert.KernelIdeal.Hand
open Idealize.ShloMosaic Idealize.ShloMosaic.TcCoe Idealize.ShloMosaic.Tactic
variable (m : (ℓ : Loc nD τ sig) → Buf (Elt Ideal) ℓ) (c : Dev nD)

/-- The segment numbers as a column. -/
theorem V3_v0 (i : Fin 320000) : V3 m c (Proc.devRef .tc main_v0) (ix2 i 0) = m ((c : Thread nD τ).loc main_arg1) (ix1 i) := by
  rw [V3_of m c main_v0 (by decide), V2_of m c main_v0 (by decide)]
  after_results
  pointwise []

/-- The weights as a column. -/
theorem V3_v1 (i : Fin 320000) : V3 m c (Proc.devRef .tc main_v1) (ix2 i 0) = m ((c : Thread nD τ).loc main_arg2) (ix1 i) := by
  rw [V3_of m c main_v1 (by decide), V2_of m c main_v1 (by decide)]
  after_results
  pointwise []

/-- The convolution's matrix, transposed. -/
theorem V3_v2 (i j : Fin 128) : V3 m c (Proc.devRef .tc main_v2) (ix2 i j) = m ((c : Thread nD τ).loc main_arg3) (ix2 j i) := by
  rw [V3_of m c main_v2 (by decide), V2_of m c main_v2 (by decide)]
  after_results
  pointwise []

/-- The convolution's bias as a row. -/
theorem V3_v3 (i : Fin 128) : V3 m c (Proc.devRef .tc main_v3) (ix2 0 i) = m ((c : Thread nD τ).loc main_arg4) (ix1 i) := by
  rw [V3_of m c main_v3 (by decide), V2_of m c main_v3 (by decide)]
  after_results
  pointwise []

/-- The attention's vector as a column. -/
theorem V3_v4 (i : Fin 128) : V3 m c (Proc.devRef .tc main_v4) (ix2 i 0) = m ((c : Thread nD τ).loc main_arg5) (ix2 0 i) := by
  rw [V3_of m c main_v4 (by decide), V2_of m c main_v4 (by decide)]
  after_results
  pointwise []

/-- The attention's bias. -/
theorem V3_v5 : V3 m c (Proc.devRef .tc main_v5) (ix2 0 0) = m ((c : Thread nD τ).loc main_arg6) (ix1 0) := by
  rw [V3_of m c main_v5 (by decide), V2_of m c main_v5 (by decide)]
  after_results
  pointwise []

/-- The normalisation's scale as a row. -/
theorem V3_v6 (i : Fin 128) : V3 m c (Proc.devRef .tc main_v6) (ix2 0 i) = m ((c : Thread nD τ).loc main_arg7) (ix1 i) := by
  rw [V3_of m c main_v6 (by decide), V2_of m c main_v6 (by decide)]
  after_results
  pointwise []

/-- The normalisation's shift as a row. -/
theorem V3_v7 (i : Fin 128) : V3 m c (Proc.devRef .tc main_v7) (ix2 0 i) = m ((c : Thread nD τ).loc main_arg8) (ix1 i) := by
  rw [V3_of m c main_v7 (by decide), V2_of m c main_v7 (by decide)]
  after_results
  pointwise []

/-- The features. -/
theorem V3_arg0 : V3 m c (Proc.devRef .tc main_arg0) = m ((c : Thread nD τ).loc main_arg0) := by
  rw [V3_of m c main_arg0 (by decide), V2_of m c main_arg0 (by decide), V1_of m c main_arg0 (by decide)]

/-- The channels' group numbers: each channel's number divided by four. -/
theorem V2_v9 (i : Fin 128) : V2 m c (Proc.devRef .tc main_v9) (ix1 i) = BitVec.ofNat 32 (i.val / 4) := by
  after_results
  revert i
  decide +kernel

/-- The channel groups' indicator. -/
theorem V3_v15 (i j : Fin 128) : V3 m c (Proc.devRef .tc main_v15) (ix2 i j) = if i.val / 4 = j.val / 4 then (1 : EReal) else 0 := by
  have h := V2_v9 m c
  unfold V3
  generalize V2 m c = V at h ⊢
  after_results
  pointwise []
  rw [h i, h j]
  show (((IntOp.cmpi CmpIPredicate.eq (BitVec.ofNat 32 (i.val / 4)) (BitVec.ofNat 32 (j.val / 4))).toNat : ℝ) : EReal) = _
  unfold IntOp.cmpi
  by_cases e : i.val / 4 = j.val / 4
  · rw [if_pos e, e]
    simp
  · have hne : BitVec.ofNat 32 (i.val / 4) ≠ BitVec.ofNat 32 (j.val / 4) := fun h => e (by
      have := congrArg BitVec.toNat h
      simp only [BitVec.toNat_ofNat] at this
      omega)
    have hb : (BitVec.ofNat 32 (i.val / 4) == BitVec.ofNat 32 (j.val / 4)) = false := by rw [beq_eq_false_iff_ne]; exact hne
    simp only [hb, if_neg e]
    simp

end Cert.Val

end
-- ==== Proof.Val.Arr.lean ====
/- The regions' blocks as parts of the arrays: what a window reads at a point, and the arrays the two regions leave. -/
module

public import proofs.«01_k».proof.Proof.KI.Run
public import Idealize.ShloMosaic.Lib.Pipeline.ValueKit
public import Idealize.ShloMosaic.Lib.Pointwise

@[expose] public section

set_option maxRecDepth 16384

noncomputable section

namespace Cert.Val

open Cert.KernelIdeal Cert.KernelIdeal.Gen Cert.KernelIdeal.Hand
open Idealize.ShloMosaic Idealize.ShloMosaic.TcCoe Idealize.ShloMosaic.Tactic
open Idealize.ShloMosaic.Pipeline (Dat Cfg Window)

/-- The forward windows' index maps: the point's own block of rows, or the whole array. -/
theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- The backward windows' index maps: the blocks of rows from the last to the first, or the whole array. -/
theorem idx1 : ∀ t : Fin cfg1.N, win1_0.index t = ![499 - t.val, 0] ∧ win1_1.index t = ![499 - t.val, 0] ∧ win1_2.index t = ![499 - t.val, 0]
    ∧ win1_3.index t = ![499 - t.val, 0] ∧ win1_4.index t = ![499 - t.val, 0] ∧ win1_5.index t = ![0, 0] ∧ win1_6.index t = ![0, 0]
    ∧ win1_7.index t = ![0, 0] ∧ win1_8.index t = ![499 - t.val, 0] ∧ win1_9.index t = ![499 - t.val, 0] :=
  (by decide +kernel : ∀ t : Fin grid1.N, _)

/-- Row `i` of block `b`. -/
def row (b : ℕ) (i : Fin 640) (h : b < 500) : Fin 320000 := ⟨640 * b + i.val, by omega⟩

theorem lt0 (t : Fin cfg0.N) : t.val < 500 := Nat.lt_of_lt_of_eq t.isLt N_0
theorem lt1 (t : Fin cfg1.N) : 499 - t.val < 500 := by omega

variable {F : FTy → Type} [FloatOps F] (W : Dev nD → Valuation τ sig (Elt F)) (c : Dev nD)

/-- What window 0 of region 0 reads at a row and a column of its block. -/
theorem iblk0_0 (t : Fin cfg0.N) (i : Fin 640) (k : Fin 128) :
    iblk0 W c 0 t (ix2 i k) = W c (Proc.devRef .tc main_arg0) (ix2 (row t.val i (lt0 t)) k) := by
  unfold row
  blk_ext [iblk0, idx0 t]

/-- What window 1 of region 0 reads at a row and a column of its block. -/
theorem iblk0_1 (t : Fin cfg0.N) (i : Fin 640) (k : Fin 1) :
    iblk0 W c 1 t (ix2 i k) = W c (Proc.devRef .tc main_v0) (ix2 (row t.val i (lt0 t)) k) := by
  unfold row
  blk_ext [iblk0, idx0 t]

/-- What window 2 of region 0 reads at a row and a column of its block. -/
theorem iblk0_2 (t : Fin cfg0.N) (i : Fin 640) (k : Fin 1) :
    iblk0 W c 2 t (ix2 i k) = W c (Proc.devRef .tc main_v1) (ix2 (row t.val i (lt0 t)) k) := by
  unfold row
  blk_ext [iblk0, idx0 t]

/-- What window 3 of region 0 reads: its whole array. -/
theorem iblk0_3 (t : Fin cfg0.N) (i : Fin 128) (k : Fin 128) : iblk0 W c 3 t (ix2 i k) = W c (Proc.devRef .tc main_v2) (ix2 i k) := by
  blk_ext [iblk0, idx0 t]

/-- What window 4 of region 0 reads: its whole array. -/
theorem iblk0_4 (t : Fin cfg0.N) (i : Fin 1) (k : Fin 128) : iblk0 W c 4 t (ix2 i k) = W c (Proc.devRef .tc main_v3) (ix2 i k) := by
  blk_ext [iblk0, idx0 t]

/-- What window 5 of region 0 reads: its whole array. -/
theorem iblk0_5 (t : Fin cfg0.N) (i : Fin 128) (k : Fin 1) : iblk0 W c 5 t (ix2 i k) = W c (Proc.devRef .tc main_v4) (ix2 i k) := by
  blk_ext [iblk0, idx0 t]

/-- What window 6 of region 0 reads: its whole array. -/
theorem iblk0_6 (t : Fin cfg0.N) (i : Fin 1) (k : Fin 1) : iblk0 W c 6 t (ix2 i k) = W c (Proc.devRef .tc main_v5) (ix2 i k) := by
  blk_ext [iblk0, idx0 t]

/-- What window 0 of region 1 reads at a row and a column of its block. -/
theorem iblk1_0 (t : Fin cfg1.N) (i : Fin 640) (k : Fin 384) :
    iblk1 W c 0 t (ix2 i k) = W c (Proc.devRef .tc main_v16_2) (ix2 (row (499 - t.val) i (lt1 t)) k) := by
  unfold row
  blk_ext [iblk1, idx1 t]

/-- What window 1 of region 1 reads at a row and a column of its block. -/
theorem iblk1_1 (t : Fin cfg1.N) (i : Fin 640) (k : Fin 1) :
    iblk1 W c 1 t (ix2 i k) = W c (Proc.devRef .tc main_v0) (ix2 (row (499 - t.val) i (lt1 t)) k) := by
  unfold row
  blk_ext [iblk1, idx1 t]

/-- What window 2 of region 1 reads at a row and a column of its block. -/
theorem iblk1_2 (t : Fin cfg1.N) (i : Fin 640) (k : Fin 128) :
    iblk1 W c 2 t (ix2 i k) = W c (Proc.devRef .tc main_v16_0) (ix2 (row (499 - t.val) i (lt1 t)) k) := by
  unfold row
  blk_ext [iblk1, idx1 t]

/-- What window 3 of region 1 reads at a row and a column of its block. -/
theorem iblk1_3 (t : Fin cfg1.N) (i : Fin 640) (k : Fin 1) :
    iblk1 W c 3 t (ix2 i k) = W c (Proc.devRef .tc main_v16_1) (ix2 (row (499 - t.val) i (lt1 t)) k) := by
  unfold row
  blk_ext [iblk1, idx1 t]

/-- What window 4 of region 1 reads at a row and a column of its block. -/
theorem iblk1_4 (t : Fin cfg1.N) (i : Fin 640) (k : Fin 1) :
    iblk1 W c 4 t (ix2 i k) = W c (Proc.devRef .tc main_v1) (ix2 (row (499 - t.val) i (lt1 t)) k) := by
  unfold row
  blk_ext [iblk1, idx1 t]

/-- What window 5 of region 1 reads: its whole array. -/
theorem iblk1_5 (t : Fin cfg1.N) (i : Fin 128) (k : Fin 128) : iblk1 W c 5 t (ix2 i k) = W c (Proc.devRef .tc main_v15) (ix2 i k) := by
  blk_ext [iblk1, idx1 t]

/-- What window 6 of region 1 reads: its whole array. -/
theorem iblk1_6 (t : Fin cfg1.N) (i : Fin 1) (k : Fin 128) : iblk1 W c 6 t (ix2 i k) = W c (Proc.devRef .tc main_v6) (ix2 i k) := by
  blk_ext [iblk1, idx1 t]

/-- What window 7 of region 1 reads: its whole array. -/
theorem iblk1_7 (t : Fin cfg1.N) (i : Fin 1) (k : Fin 128) : iblk1 W c 7 t (ix2 i k) = W c (Proc.devRef .tc main_v7) (ix2 i k) := by
  blk_ext [iblk1, idx1 t]

/-- Region 0 leaves in window 7's array what its body leaves block by block. -/
theorem arr0_7 (G : (⟨2, ![320000, 128]⟩ : Shape).Idx → F .f32)
    (h : ∀ (t : Fin cfg0.N) (i : Fin 640) (k : Fin 128), (k0_pay3 (iblk0 W c 0 t) (iblk0 W c 3 t) (iblk0 W c 4 t)) (ix2 i k) = G (ix2 (row t.val i (lt0 t)) k)) :
    Pipeline.afterRegion (dat0 W c) (W c) (Proc.devRef .tc main_v16_0) = G := by
  refine (Pipeline.afterRegion_arr (dat0 W c) (W c) launch0.win.arr_inj 7).trans ?_
  refine (dat0 W c).arrAt_eq_of_covers 7 G (by decide +kernel : (cfg0.win 7).Covers) fun t _ y => ?_
  blk_simp
  rw [after0_7]
  idx_vars y
  refine (h t _ _).trans (congrArg G ?_)
  unfold row
  blk_ext [idx0 t]

/-- Region 0 leaves in window 8's array what its body leaves block by block. -/
theorem arr0_8 (G : (⟨2, ![320000, 1]⟩ : Shape).Idx → F .f32)
    (h : ∀ (t : Fin cfg0.N) (i : Fin 640) (k : Fin 1), (k0_pay4 (iblk0 W c 0 t) (iblk0 W c 3 t) (iblk0 W c 4 t) (iblk0 W c 5 t) (iblk0 W c 6 t)) (ix2 i k) = G (ix2 (row t.val i (lt0 t)) k)) :
    Pipeline.afterRegion (dat0 W c) (W c) (Proc.devRef .tc main_v16_1) = G := by
  refine (Pipeline.afterRegion_arr (dat0 W c) (W c) launch0.win.arr_inj 8).trans ?_
  refine (dat0 W c).arrAt_eq_of_covers 8 G (by decide +kernel : (cfg0.win 8).Covers) fun t _ y => ?_
  blk_simp
  rw [after0_8]
  idx_vars y
  refine (h t _ _).trans (congrArg G ?_)
  unfold row
  blk_ext [idx0 t]

/-- Region 0 leaves in window 9's array what its body leaves block by block. -/
theorem arr0_9 (G : (⟨2, ![320000, 384]⟩ : Shape).Idx → F .f32)
    (h : ∀ (t : Fin cfg0.N) (i : Fin 640) (k : Fin 384), (fP (iblk0 W c 0 t) (iblk0 W c 1 t) (iblk0 W c 2 t) (iblk0 W c 3 t) (iblk0 W c 4 t) (iblk0 W c 5 t) (iblk0 W c 6 t) (carry0 W c t.val).1 (carry0 W c t.val).2) (ix2 i k) = G (ix2 (row t.val i (lt0 t)) k)) :
    Pipeline.afterRegion (dat0 W c) (W c) (Proc.devRef .tc main_v16_2) = G := by
  refine (Pipeline.afterRegion_arr (dat0 W c) (W c) launch0.win.arr_inj 9).trans ?_
  refine (dat0 W c).arrAt_eq_of_covers 9 G (by decide +kernel : (cfg0.win 9).Covers) fun t _ y => ?_
  blk_simp
  rw [after0_9]
  idx_vars y
  refine (h t _ _).trans (congrArg G ?_)
  unfold row
  blk_ext [idx0 t]

/-- Region 1 leaves in window 8's array what its body leaves block by block. -/
theorem arr1_8 (G : (⟨2, ![320000, 128]⟩ : Shape).Idx → F .f32)
    (h : ∀ (t : Fin cfg1.N) (i : Fin 640) (k : Fin 128), (bOut (iblk1 W c 0 t) (iblk1 W c 1 t) (iblk1 W c 2 t) (iblk1 W c 3 t) (iblk1 W c 4 t) (iblk1 W c 5 t) (iblk1 W c 6 t) (iblk1 W c 7 t) (carry1 W c t.val).1 (carry1 W c t.val).2) (ix2 i k) = G (ix2 (row (499 - t.val) i (lt1 t)) k)) :
    Pipeline.afterRegion (dat1 W c) (W c) (Proc.devRef .tc main_v17_0) = G := by
  refine (Pipeline.afterRegion_arr (dat1 W c) (W c) launch1.win.arr_inj 8).trans ?_
  refine (dat1 W c).arrAt_eq_of_covers 8 G (by decide +kernel : (cfg1.win 8).Covers) fun t _ y => ?_
  blk_simp
  rw [after1_8]
  idx_vars y
  refine (h t _ _).trans (congrArg G ?_)
  unfold row
  blk_ext [idx1 t]

/-- Region 1 leaves in window 9's array what its body leaves block by block. -/
theorem arr1_9 (G : (⟨2, ![320000, 1]⟩ : Shape).Idx → F .f32)
    (h : ∀ (t : Fin cfg1.N) (i : Fin 640) (k : Fin 1), (bRa (iblk1 W c 0 t) (iblk1 W c 1 t) (iblk1 W c 2 t) (iblk1 W c 3 t) (iblk1 W c 4 t) (carry1 W c t.val).1 (carry1 W c t.val).2) (ix2 i k) = G (ix2 (row (499 - t.val) i (lt1 t)) k)) :
    Pipeline.afterRegion (dat1 W c) (W c) (Proc.devRef .tc main_v17_1) = G := by
  refine (Pipeline.afterRegion_arr (dat1 W c) (W c) launch1.win.arr_inj 9).trans ?_
  refine (dat1 W c).arrAt_eq_of_covers 9 G (by decide +kernel : (cfg1.win 9).Covers) fun t _ y => ?_
  blk_simp
  rw [after1_9]
  idx_vars y
  refine (h t _ _).trans (congrArg G ?_)
  unfold row
  blk_ext [idx1 t]

end Cert.Val

end
-- ==== Proof.Val.Scan.lean ====
/- Segmented prefix and suffix sums by doubling, stated on rows numbered by the natural numbers. -/
module

public import Idealize.ShloMosaic.Lib.Pointwise

@[expose] public section

namespace Cert.Val

variable {M β : Type} [AddCommMonoid M] [DecidableEq β]

/-- Equal labels at two rows below `N` are shared by every row between them. -/
def Contig (seg : ℕ → β) (N : ℕ) : Prop := ∀ i j k, i ≤ j → j ≤ k → k < N → seg i = seg k → seg j = seg k

/-- One forward doubling step at row `i`: the row `d` above is added where it exists and carries the same label. -/
def fstep (d : ℕ) (sid : ℕ → β) (a : ℕ → M) (i : ℕ) : M :=
  a i + if d ≤ i ∧ sid (i - d) = sid i then a (i - d) else 0

/-- One backward doubling step at row `i` of `n`: the row `d` below is added where it exists and carries the same label. -/
def bstep (n d : ℕ) (sid : ℕ → β) (a : ℕ → M) (i : ℕ) : M :=
  a i + if i + d < n ∧ sid (i + d) = sid i then a (i + d) else 0

/-- A forward step doubles the window of the rows summed. -/
theorem fstep_window {n : ℕ} {sid : ℕ → β} (hc : Contig sid n) (d : ℕ) (V a : ℕ → M)
    (ha : ∀ i < n, a i = ∑ j ∈ Finset.range n, if j ≤ i ∧ i < j + d ∧ sid j = sid i then V j else 0) :
    ∀ i < n, fstep d sid a i = ∑ j ∈ Finset.range n, if j ≤ i ∧ i < j + (d + d) ∧ sid j = sid i then V j else 0 := by
  intro i hi
  unfold fstep
  have hz : (if d ≤ i ∧ sid (i - d) = sid i then a (i - d) else 0)
      = ∑ j ∈ Finset.range n, if j ≤ i ∧ ¬ i < j + d ∧ i < j + (d + d) ∧ sid j = sid i then V j else 0 := by
    by_cases h : d ≤ i ∧ sid (i - d) = sid i
    · rw [if_pos h, ha (i - d) (by omega)]
      refine Finset.sum_congr rfl fun j _ => if_congr ?_ rfl rfl
      rw [h.2]
      constructor
      · rintro ⟨h1, h2, h3⟩; exact ⟨by omega, by omega, by omega, h3⟩
      · rintro ⟨h1, h2, h3, h4⟩; exact ⟨by omega, by omega, h4⟩
    · rw [if_neg h]
      refine (Finset.sum_eq_zero fun j _ => if_neg ?_).symm
      rintro ⟨h1, h2, h3, h4⟩
      exact h ⟨by omega, hc j (i - d) i (by omega) (by omega) hi h4⟩
  rw [hz, ha i hi, ← Finset.sum_add_distrib]
  refine Finset.sum_congr rfl fun j _ => ?_
  by_cases h1 : i < j + d
  · by_cases h2 : j ≤ i ∧ sid j = sid i
    · rw [if_pos ⟨h2.1, h1, h2.2⟩, if_neg (fun h => h.2.1 h1), if_pos ⟨h2.1, by omega, h2.2⟩, add_zero]
    · rw [if_neg (fun h => h2 ⟨h.1, h.2.2⟩), if_neg (fun h => h.2.1 h1), if_neg (fun h => h2 ⟨h.1, h.2.2⟩), add_zero]
  · by_cases h2 : j ≤ i ∧ i < j + (d + d) ∧ sid j = sid i
    · rw [if_neg (fun h => h1 h.2.1), if_pos ⟨h2.1, h1, h2.2⟩, if_pos h2, zero_add]
    · rw [if_neg (fun h => h1 h.2.1), if_neg (fun h => h2 ⟨h.1, h.2.2⟩), if_neg h2, zero_add]

/-- A backward step doubles the window of the rows summed. -/
theorem bstep_window {n : ℕ} {sid : ℕ → β} (hc : Contig sid n) (d : ℕ) (V a : ℕ → M)
    (ha : ∀ i < n, a i = ∑ j ∈ Finset.range n, if i ≤ j ∧ j < i + d ∧ sid j = sid i then V j else 0) :
    ∀ i < n, bstep n d sid a i = ∑ j ∈ Finset.range n, if i ≤ j ∧ j < i + (d + d) ∧ sid j = sid i then V j else 0 := by
  intro i hi
  unfold bstep
  have hz : (if i + d < n ∧ sid (i + d) = sid i then a (i + d) else 0)
      = ∑ j ∈ Finset.range n, if i ≤ j ∧ ¬ j < i + d ∧ j < i + (d + d) ∧ sid j = sid i then V j else 0 := by
    by_cases h : i + d < n ∧ sid (i + d) = sid i
    · rw [if_pos h, ha (i + d) h.1]
      refine Finset.sum_congr rfl fun j _ => if_congr ?_ rfl rfl
      rw [h.2]
      constructor
      · rintro ⟨h1, h2, h3⟩; exact ⟨by omega, by omega, by omega, h3⟩
      · rintro ⟨h1, h2, h3, h4⟩; exact ⟨by omega, by omega, h4⟩
    · rw [if_neg h]
      refine (Finset.sum_eq_zero fun j hj => if_neg ?_).symm
      have hj := Finset.mem_range.1 hj
      rintro ⟨h1, h2, h3, h4⟩
      exact h ⟨by omega, (hc i (i + d) j (by omega) (by omega) hj h4.symm).trans h4⟩
  rw [hz, ha i hi, ← Finset.sum_add_distrib]
  refine Finset.sum_congr rfl fun j _ => ?_
  by_cases h1 : j < i + d
  · by_cases h2 : i ≤ j ∧ sid j = sid i
    · rw [if_pos ⟨h2.1, h1, h2.2⟩, if_neg (fun h => h.2.1 h1), if_pos ⟨h2.1, by omega, h2.2⟩, add_zero]
    · rw [if_neg (fun h => h2 ⟨h.1, h.2.2⟩), if_neg (fun h => h.2.1 h1), if_neg (fun h => h2 ⟨h.1, h.2.2⟩), add_zero]
  · by_cases h2 : i ≤ j ∧ j < i + (d + d) ∧ sid j = sid i
    · rw [if_neg (fun h => h1 h.2.1), if_pos ⟨h2.1, h1, h2.2⟩, if_pos h2, zero_add]
    · rw [if_neg (fun h => h1 h.2.1), if_neg (fun h => h2 ⟨h.1, h.2.2⟩), if_neg h2, zero_add]

/-- A forward step depends on the rows below `n` only, at a row below `n`. -/
theorem fstep_congr {n : ℕ} (d : ℕ) (sid : ℕ → β) {a b : ℕ → M} (h : ∀ i < n, a i = b i) : ∀ i < n, fstep d sid a i = fstep d sid b i := by
  intro i hi
  unfold fstep
  rw [h i hi, h (i - d) (by omega)]

/-- A backward step depends on the rows below `n` only, at a row below `n`. -/
theorem bstep_congr {n : ℕ} (d : ℕ) (sid : ℕ → β) {a b : ℕ → M} (h : ∀ i < n, a i = b i) : ∀ i < n, bstep n d sid a i = bstep n d sid b i := by
  intro i hi
  unfold bstep
  rw [h i hi]
  by_cases hd : i + d < n
  · rw [h (i + d) hd]
  · rw [if_neg fun h => hd h.1, if_neg fun h => hd h.1]

/-- Ten forward steps from the rows' own values. -/
def fscan (sid : ℕ → β) (V : ℕ → M) : ℕ → M :=
  fstep 512 sid (fstep 256 sid (fstep 128 sid (fstep 64 sid (fstep 32 sid
    (fstep 16 sid (fstep 8 sid (fstep 4 sid (fstep 2 sid (fstep 1 sid V)))))))))

/-- Ten backward steps from the rows' own values. -/
def bscan (n : ℕ) (sid : ℕ → β) (V : ℕ → M) : ℕ → M :=
  bstep n 512 sid (bstep n 256 sid (bstep n 128 sid (bstep n 64 sid (bstep n 32 sid
    (bstep n 16 sid (bstep n 8 sid (bstep n 4 sid (bstep n 2 sid (bstep n 1 sid V)))))))))

/-- The forward scan of at most 1024 rows sums, at each row, the rows up to it with its label. -/
theorem fscan_eq {n : ℕ} (hn : n ≤ 1024) {sid : ℕ → β} (hc : Contig sid n) (V : ℕ → M) (i : ℕ) (hi : i < n) :
    fscan sid V i = ∑ j ∈ Finset.range n, if j ≤ i ∧ sid j = sid i then V j else 0 := by
  have h0 : ∀ i < n, V i = ∑ j ∈ Finset.range n, if j ≤ i ∧ i < j + 1 ∧ sid j = sid i then V j else 0 := fun i hi => by
    rw [Finset.sum_eq_single_of_mem i (Finset.mem_range.2 hi) (fun j _ hj => if_neg fun h => hj (by omega)), if_pos ⟨le_refl i, by omega, rfl⟩]
  have h := fstep_window hc 512 V _ (fstep_window hc 256 V _ (fstep_window hc 128 V _ (fstep_window hc 64 V _ (fstep_window hc 32 V _
    (fstep_window hc 16 V _ (fstep_window hc 8 V _ (fstep_window hc 4 V _ (fstep_window hc 2 V _ (fstep_window hc 1 V V h0))))))))) i hi
  refine h.trans (Finset.sum_congr rfl fun j _ => if_congr ?_ rfl rfl)
  exact ⟨fun h => ⟨h.1, h.2.2⟩, fun h => ⟨h.1, by omega, h.2⟩⟩

/-- The backward scan of at most 1024 rows sums, at each row, the rows from it on with its label. -/
theorem bscan_eq {n : ℕ} (hn : n ≤ 1024) {sid : ℕ → β} (hc : Contig sid n) (V : ℕ → M) (i : ℕ) (hi : i < n) :
    bscan n sid V i = ∑ j ∈ Finset.range n, if i ≤ j ∧ sid j = sid i then V j else 0 := by
  have h0 : ∀ i < n, V i = ∑ j ∈ Finset.range n, if i ≤ j ∧ j < i + 1 ∧ sid j = sid i then V j else 0 := fun i hi => by
    rw [Finset.sum_eq_single_of_mem i (Finset.mem_range.2 hi) (fun j _ hj => if_neg fun h => hj (by omega)), if_pos ⟨le_refl i, by omega, rfl⟩]
  have h := bstep_window hc 512 V _ (bstep_window hc 256 V _ (bstep_window hc 128 V _ (bstep_window hc 64 V _ (bstep_window hc 32 V _
    (bstep_window hc 16 V _ (bstep_window hc 8 V _ (bstep_window hc 4 V _ (bstep_window hc 2 V _ (bstep_window hc 1 V V h0))))))))) i hi
  refine h.trans (Finset.sum_congr rfl fun j hj => if_congr ?_ rfl rfl)
  have := Finset.mem_range.1 hj
  exact ⟨fun h => ⟨h.1, h.2.2⟩, fun h => ⟨h.1, by omega, h.2⟩⟩

/-- The sum of the rows below `b` that carry label `s`. -/
def below (seg : ℕ → β) (V : ℕ → M) (b : ℕ) (s : β) : M := ∑ j ∈ Finset.range b, if seg j = s then V j else 0

/-- A contiguous labelling stays so read from row `b` on. -/
theorem Contig.shift {seg : ℕ → β} {N : ℕ} (hc : Contig seg N) (b n : ℕ) (h : b + n ≤ N) : Contig (fun i => seg (b + i)) n :=
  fun i j k hij hjk hk e => hc (b + i) (b + j) (b + k) (by omega) (by omega) (by omega) e

/-- The rows with row `i`'s label inside a block, from the block's start to `i`, and those before the block, are all rows up to `i`
    with its label. -/
theorem below_split {seg : ℕ → β} (V : ℕ → M) (b n i : ℕ) (hi : i < n) (s : β) :
    below seg V (b + i + 1) s = below seg V b s + ∑ j ∈ Finset.range n, if j ≤ i ∧ seg (b + j) = s then V (b + j) else 0 := by
  unfold below
  rw [add_assoc, Finset.sum_range_add]
  congr 1
  have h : ∀ j ∈ Finset.range n, (if j ≤ i ∧ seg (b + j) = s then V (b + j) else 0)
      = if j ≤ i then (if seg (b + j) = s then V (b + j) else 0) else 0 := fun j _ => ite_and _ _ _ _
  rw [Finset.sum_congr rfl h, ← Finset.sum_filter (p := fun j => j ≤ i) (f := fun j => if seg (b + j) = s then V (b + j) else 0)]
  refine Finset.sum_congr (Finset.ext fun j => ?_) fun _ _ => rfl
  simp only [Finset.mem_range, Finset.mem_filter]; omega

/-- No row before a block carries the label of a row of the block unless the row just before the block does. -/
theorem below_zero {seg : ℕ → β} {N : ℕ} (hc : Contig seg N) (V : ℕ → M) (b r : ℕ) (hb : 0 < b) (hbr : b ≤ r) (hr : r < N)
    (h : seg r ≠ seg (b - 1)) : below seg V b (seg r) = 0 := by
  refine Finset.sum_eq_zero fun j hj => if_neg fun e => h ?_
  exact (hc j (b - 1) r (by have := Finset.mem_range.1 hj; omega) (by omega) hr e).symm

/-- No row from row `b` on carries the label of an earlier row `r` unless row `b` does. -/
theorem below_all {seg : ℕ → β} {N : ℕ} (hc : Contig seg N) (V : ℕ → M) (b r : ℕ) (hbr : r < b) (hb : b ≤ N)
    (h : b < N → seg r ≠ seg b) : below seg V N (seg r) = below seg V b (seg r) := by
  unfold below
  obtain ⟨q, rfl⟩ := Nat.exists_eq_add_of_le hb
  rw [Finset.sum_range_add, Finset.sum_eq_zero (s := Finset.range q), add_zero]
  intro j hj
  have hj := Finset.mem_range.1 hj
  refine if_neg fun e => h (by omega) ?_
  exact ((hc r b (b + j) (by omega) (by omega) (by omega) e.symm).trans e).symm

end Cert.Val

end
-- ==== Proof.Val.Pay.lean ====
/- The blocks' columns and labels by row number, and the payload both kernels form from a row. -/
module

public import proofs.«01_k».proof.Proof.Val.Scan
public import proofs.«01_k».proof.Proof.KI.FwdBody
public import Idealize.ShloMosaic.Lib.Pointwise

@[expose] public section

set_option maxRecDepth 16384

noncomputable section

namespace Cert.Val

open Cert.KernelIdeal Cert.KernelIdeal.Gen
open Idealize.ShloMosaic Idealize.ShloMosaic.TcCoe

/-- Column `l` of a block, by row number; zero past the block. -/
def col (acc : FVec Ideal S640x384 .f32) (l : Fin 384) (k : ℕ) : EReal := if h : k < 640 then acc (ix2 ⟨k, h⟩ l) else 0

/-- The labels of a block, by row number. -/
def lab (sid : IVec S640x1 32) (k : ℕ) : BitVec 32 := if h : k < 640 then sid (ix2 ⟨k, h⟩ 0) else 0#32

/-- A selection on the equality of two words. -/
theorem sel_eq (a b : BitVec 32) (x y : EReal) : Scalar.select (IntOp.cmpi CmpIPredicate.eq a b) x y = if a = b then x else y := by
  unfold Scalar.select IntOp.cmpi
  have hb : (a == b) = decide (a = b) := rfl
  simp only [hb]
  by_cases h : a = b
  · rw [decide_eq_true h, if_pos h]; rfl
  · rw [decide_eq_false h, if_neg h]; rfl

/-- A selection between equals. -/
theorem sel_same (c : BitVec 1) (x : EReal) : Scalar.select c x x = x := by
  unfold Scalar.select
  split <;> rfl

/-- What both kernels sum over a segment, from a row's features `h`, its exponential `e` and its weighted exponential `u`: `u·h`, then
    `u·h·h`, then `e`, `u` and zeros. -/
def payF (h : Fin 128 → EReal) (e u : EReal) (l : Fin 384) : EReal :=
  if h1 : l.val < 128 then u * h ⟨l.val, h1⟩
  else if h2 : l.val < 256 then u * h ⟨l.val - 128, by omega⟩ * h ⟨l.val - 128, by omega⟩
  else (if l.val = 256 then e else 0) + (if l.val = 257 then u else 0)

/-- A selection on an iota's word being a small constant. -/
theorem sel_iota (n k : ℕ) (hn : n < 128) (hk : k < 128) (x y : EReal) :
    Scalar.select (IntOp.cmpi CmpIPredicate.eq (BitVec.ofNat 32 n) (BitVec.ofNat 32 k)) x y = if n = k then x else y := by
  rw [sel_eq]
  refine if_congr ⟨fun h => ?_, fun h => by rw [h]⟩ rfl rfl
  have := congrArg BitVec.toNat h
  simp only [BitVec.toNat_ofNat] at this
  omega

end Cert.Val

end
-- ==== Proof.Val.FwdPay.lean ====
/- The forward kernel's block of running totals, read at a row and a column. -/
module

public import proofs.«01_k».proof.Proof.Val.Pay

@[expose] public section

set_option maxRecDepth 16384

noncomputable section

namespace Cert.Val

open Cert.KernelIdeal Cert.KernelIdeal.Gen Cert.KernelIdeal.Hand
open Idealize.ShloMosaic Idealize.ShloMosaic.TcCoe

/-- The printed forward step by 1. -/
def F1 (acc : FVec Ideal S640x384 .f32) (sid : IVec S640x1 32) : FVec Ideal S640x384 .f32 :=
  addf acc (select (broadcastTo S640x384 (shapeCast S640x1 (cmpi .eq (concatenate S640x1 0 [⟨S1x1, broadcast S1x1 4294967295#32⟩,
      ⟨S639x1, extractStridedSlice S639x1 ![0, 0] sid slices_S640x1_o0_0_S639x1⟩] concatenates_S1x1_S639x1_S640x1_d0) sid)
      shapeCasts_S640x1_S640x1) broadcasts_S640x1_S640x384)
    (concatenate S640x384 0 [⟨S1x384, broadcast S1x384 (Scalar.ofBits .f32 0x00000000#32 : Ideal .f32)⟩,
      ⟨S639x384, extractStridedSlice S639x384 ![0, 0] acc slices_S640x384_o0_0_S639x384⟩] concatenates_S1x384_S639x384_S640x384_d0)
    (broadcast S640x384 (Scalar.ofBits .f32 0x00000000#32 : Ideal .f32)))

/-- The printed forward step by 1, read by rows, is the forward step by 1. -/
theorem F1_col (acc : FVec Ideal S640x384 .f32) (sid : IVec S640x1 32) (l : Fin 384) (k : ℕ) (hk : k < 640) :
    col (F1 acc sid) l k = fstep 1 (lab sid) (col acc l) k := by
  unfold fstep col lab
  simp only [dif_pos hk]
  pointwise [F1]
  by_cases hd : k < 1
  · rw [if_neg (c := 1 ≤ k ∧ _) (fun h => absurd h.1 (by omega))]
    simp only [hd, ↓reduceDIte, sel_same]
  · simp only [hd, ↓reduceDIte, show k - 1 < 640 from by omega, show 1 ≤ k from by omega, true_and, sel_eq]

/-- The printed forward step by 2. -/
def F2 (acc : FVec Ideal S640x384 .f32) (sid : IVec S640x1 32) : FVec Ideal S640x384 .f32 :=
  addf acc (select (broadcastTo S640x384 (shapeCast S640x1 (cmpi .eq (concatenate S640x1 0 [⟨S2x1, broadcast S2x1 4294967295#32⟩,
      ⟨S638x1, extractStridedSlice S638x1 ![0, 0] sid slices_S640x1_o0_0_S638x1⟩] concatenates_S2x1_S638x1_S640x1_d0) sid)
      shapeCasts_S640x1_S640x1) broadcasts_S640x1_S640x384)
    (concatenate S640x384 0 [⟨S2x384, broadcast S2x384 (Scalar.ofBits .f32 0x00000000#32 : Ideal .f32)⟩,
      ⟨S638x384, extractStridedSlice S638x384 ![0, 0] acc slices_S640x384_o0_0_S638x384⟩] concatenates_S2x384_S638x384_S640x384_d0)
    (broadcast S640x384 (Scalar.ofBits .f32 0x00000000#32 : Ideal .f32)))

/-- The printed forward step by 2, read by rows, is the forward step by 2. -/
theorem F2_col (acc : FVec Ideal S640x384 .f32) (sid : IVec S640x1 32) (l : Fin 384) (k : ℕ) (hk : k < 640) :
    col (F2 acc sid) l k = fstep 2 (lab sid) (col acc l) k := by
  unfold fstep col lab
  simp only [dif_pos hk]
  pointwise [F2]
  by_cases hd : k < 2
  · rw [if_neg (c := 2 ≤ k ∧ _) (fun h => absurd h.1 (by omega))]
    simp only [hd, ↓reduceDIte, sel_same]
  · simp only [hd, ↓reduceDIte, show k - 2 < 640 from by omega, show 2 ≤ k from by omega, true_and, sel_eq]

/-- The printed forward step by 4. -/
def F4 (acc : FVec Ideal S640x384 .f32) (sid : IVec S640x1 32) : FVec Ideal S640x384 .f32 :=
  addf acc (select (broadcastTo S640x384 (shapeCast S640x1 (cmpi .eq (concatenate S640x1 0 [⟨S4x1, broadcast S4x1 4294967295#32⟩,
      ⟨S636x1, extractStridedSlice S636x1 ![0, 0] sid slices_S640x1_o0_0_S636x1⟩] concatenates_S4x1_S636x1_S640x1_d0) sid)
      shapeCasts_S640x1_S640x1) broadcasts_S640x1_S640x384)
    (concatenate S640x384 0 [⟨S4x384, broadcast S4x384 (Scalar.ofBits .f32 0x00000000#32 : Ideal .f32)⟩,
      ⟨S636x384, extractStridedSlice S636x384 ![0, 0] acc slices_S640x384_o0_0_S636x384⟩] concatenates_S4x384_S636x384_S640x384_d0)
    (broadcast S640x384 (Scalar.ofBits .f32 0x00000000#32 : Ideal .f32)))

/-- The printed forward step by 4, read by rows, is the forward step by 4. -/
theorem F4_col (acc : FVec Ideal S640x384 .f32) (sid : IVec S640x1 32) (l : Fin 384) (k : ℕ) (hk : k < 640) :
    col (F4 acc sid) l k = fstep 4 (lab sid) (col acc l) k := by
  unfold fstep col lab
  simp only [dif_pos hk]
  pointwise [F4]
  by_cases hd : k < 4
  · rw [if_neg (c := 4 ≤ k ∧ _) (fun h => absurd h.1 (by omega))]
    simp only [hd, ↓reduceDIte, sel_same]
  · simp only [hd, ↓reduceDIte, show k - 4 < 640 from by omega, show 4 ≤ k from by omega, true_and, sel_eq]

/-- The printed forward step by 8. -/
def F8 (acc : FVec Ideal S640x384 .f32) (sid : IVec S640x1 32) : FVec Ideal S640x384 .f32 :=
  addf acc (select (broadcastTo S640x384 (shapeCast S640x1 (cmpi .eq (concatenate S640x1 0 [⟨S8x1, broadcast S8x1 4294967295#32⟩,
      ⟨S632x1, extractStridedSlice S632x1 ![0, 0] sid slices_S640x1_o0_0_S632x1⟩] concatenates_S8x1_S632x1_S640x1_d0) sid)
      shapeCasts_S640x1_S640x1) broadcasts_S640x1_S640x384)
    (concatenate S640x384 0 [⟨S8x384, broadcast S8x384 (Scalar.ofBits .f32 0x00000000#32 : Ideal .f32)⟩,
      ⟨S632x384, extractStridedSlice S632x384 ![0, 0] acc slices_S640x384_o0_0_S632x384⟩] concatenates_S8x384_S632x384_S640x384_d0)
    (broadcast S640x384 (Scalar.ofBits .f32 0x00000000#32 : Ideal .f32)))

/-- The printed forward step by 8, read by rows, is the forward step by 8. -/
theorem F8_col (acc : FVec Ideal S640x384 .f32) (sid : IVec S640x1 32) (l : Fin 384) (k : ℕ) (hk : k < 640) :
    col (F8 acc sid) l k = fstep 8 (lab sid) (col acc l) k := by
  unfold fstep col lab
  simp only [dif_pos hk]
  pointwise [F8]
  by_cases hd : k < 8
  · rw [if_neg (c := 8 ≤ k ∧ _) (fun h => absurd h.1 (by omega))]
    simp only [hd, ↓reduceDIte, sel_same]
  · simp only [hd, ↓reduceDIte, show k - 8 < 640 from by omega, show 8 ≤ k from by omega, true_and, sel_eq]

/-- The printed forward step by 16. -/
def F16 (acc : FVec Ideal S640x384 .f32) (sid : IVec S640x1 32) : FVec Ideal S640x384 .f32 :=
  addf acc (select (broadcastTo S640x384 (shapeCast S640x1 (cmpi .eq (concatenate S640x1 0 [⟨S16x1, broadcast S16x1 4294967295#32⟩,
      ⟨S624x1, extractStridedSlice S624x1 ![0, 0] sid slices_S640x1_o0_0_S624x1⟩] concatenates_S16x1_S624x1_S640x1_d0) sid)
      shapeCasts_S640x1_S640x1) broadcasts_S640x1_S640x384)
    (concatenate S640x384 0 [⟨S16x384, broadcast S16x384 (Scalar.ofBits .f32 0x00000000#32 : Ideal .f32)⟩,
      ⟨S624x384, extractStridedSlice S624x384 ![0, 0] acc slices_S640x384_o0_0_S624x384⟩] concatenates_S16x384_S624x384_S640x384_d0)
    (broadcast S640x384 (Scalar.ofBits .f32 0x00000000#32 : Ideal .f32)))

/-- The printed forward step by 16, read by rows, is the forward step by 16. -/
theorem F16_col (acc : FVec Ideal S640x384 .f32) (sid : IVec S640x1 32) (l : Fin 384) (k : ℕ) (hk : k < 640) :
    col (F16 acc sid) l k = fstep 16 (lab sid) (col acc l) k := by
  unfold fstep col lab
  simp only [dif_pos hk]
  pointwise [F16]
  by_cases hd : k < 16
  · rw [if_neg (c := 16 ≤ k ∧ _) (fun h => absurd h.1 (by omega))]
    simp only [hd, ↓reduceDIte, sel_same]
  · simp only [hd, ↓reduceDIte, show k - 16 < 640 from by omega, show 16 ≤ k from by omega, true_and, sel_eq]

/-- The printed forward step by 32. -/
def F32 (acc : FVec Ideal S640x384 .f32) (sid : IVec S640x1 32) : FVec Ideal S640x384 .f32 :=
  addf acc (select (broadcastTo S640x384 (shapeCast S640x1 (cmpi .eq (concatenate S640x1 0 [⟨S32x1, broadcast S32x1 4294967295#32⟩,
      ⟨S608x1, extractStridedSlice S608x1 ![0, 0] sid slices_S640x1_o0_0_S608x1⟩] concatenates_S32x1_S608x1_S640x1_d0) sid)
      shapeCasts_S640x1_S640x1) broadcasts_S640x1_S640x384)
    (concatenate S640x384 0 [⟨S32x384, broadcast S32x384 (Scalar.ofBits .f32 0x00000000#32 : Ideal .f32)⟩,
      ⟨S608x384, extractStridedSlice S608x384 ![0, 0] acc slices_S640x384_o0_0_S608x384⟩] concatenates_S32x384_S608x384_S640x384_d0)
    (broadcast S640x384 (Scalar.ofBits .f32 0x00000000#32 : Ideal .f32)))

/-- The printed forward step by 32, read by rows, is the forward step by 32. -/
theorem F32_col (acc : FVec Ideal S640x384 .f32) (sid : IVec S640x1 32) (l : Fin 384) (k : ℕ) (hk : k < 640) :
    col (F32 acc sid) l k = fstep 32 (lab sid) (col acc l) k := by
  unfold fstep col lab
  simp only [dif_pos hk]
  pointwise [F32]
  by_cases hd : k < 32
  · rw [if_neg (c := 32 ≤ k ∧ _) (fun h => absurd h.1 (by omega))]
    simp only [hd, ↓reduceDIte, sel_same]
  · simp only [hd, ↓reduceDIte, show k - 32 < 640 from by omega, show 32 ≤ k from by omega, true_and, sel_eq]

/-- The printed forward step by 64. -/
def F64 (acc : FVec Ideal S640x384 .f32) (sid : IVec S640x1 32) : FVec Ideal S640x384 .f32 :=
  addf acc (select (broadcastTo S640x384 (shapeCast S640x1 (cmpi .eq (concatenate S640x1 0 [⟨S64x1, broadcast S64x1 4294967295#32⟩,
      ⟨S576x1, extractStridedSlice S576x1 ![0, 0] sid slices_S640x1_o0_0_S576x1⟩] concatenates_S64x1_S576x1_S640x1_d0) sid)
      shapeCasts_S640x1_S640x1) broadcasts_S640x1_S640x384)
    (concatenate S640x384 0 [⟨S64x384, broadcast S64x384 (Scalar.ofBits .f32 0x00000000#32 : Ideal .f32)⟩,
      ⟨S576x384, extractStridedSlice S576x384 ![0, 0] acc slices_S640x384_o0_0_S576x384⟩] concatenates_S64x384_S576x384_S640x384_d0)
    (broadcast S640x384 (Scalar.ofBits .f32 0x00000000#32 : Ideal .f32)))

/-- The printed forward step by 64, read by rows, is the forward step by 64. -/
theorem F64_col (acc : FVec Ideal S640x384 .f32) (sid : IVec S640x1 32) (l : Fin 384) (k : ℕ) (hk : k < 640) :
    col (F64 acc sid) l k = fstep 64 (lab sid) (col acc l) k := by
  unfold fstep col lab
  simp only [dif_pos hk]
  pointwise [F64]
  by_cases hd : k < 64
  · rw [if_neg (c := 64 ≤ k ∧ _) (fun h => absurd h.1 (by omega))]
    simp only [hd, ↓reduceDIte, sel_same]
  · simp only [hd, ↓reduceDIte, show k - 64 < 640 from by omega, show 64 ≤ k from by omega, true_and, sel_eq]

/-- The printed forward step by 128. -/
def F128 (acc : FVec Ideal S640x384 .f32) (sid : IVec S640x1 32) : FVec Ideal S640x384 .f32 :=
  addf acc (select (broadcastTo S640x384 (shapeCast S640x1 (cmpi .eq (concatenate S640x1 0 [⟨S128x1, broadcast S128x1 4294967295#32⟩,
      ⟨S512x1, extractStridedSlice S512x1 ![0, 0] sid slices_S640x1_o0_0_S512x1⟩] concatenates_S128x1_S512x1_S640x1_d0) sid)
      shapeCasts_S640x1_S640x1) broadcasts_S640x1_S640x384)
    (concatenate S640x384 0 [⟨S128x384, broadcast S128x384 (Scalar.ofBits .f32 0x00000000#32 : Ideal .f32)⟩,
      ⟨S512x384, extractStridedSlice S512x384 ![0, 0] acc slices_S640x384_o0_0_S512x384⟩] concatenates_S128x384_S512x384_S640x384_d0)
    (broadcast S640x384 (Scalar.ofBits .f32 0x00000000#32 : Ideal .f32)))

/-- The printed forward step by 128, read by rows, is the forward step by 128. -/
theorem F128_col (acc : FVec Ideal S640x384 .f32) (sid : IVec S640x1 32) (l : Fin 384) (k : ℕ) (hk : k < 640) :
    col (F128 acc sid) l k = fstep 128 (lab sid) (col acc l) k := by
  unfold fstep col lab
  simp only [dif_pos hk]
  pointwise [F128]
  by_cases hd : k < 128
  · rw [if_neg (c := 128 ≤ k ∧ _) (fun h => absurd h.1 (by omega))]
    simp only [hd, ↓reduceDIte, sel_same]
  · simp only [hd, ↓reduceDIte, show k - 128 < 640 from by omega, show 128 ≤ k from by omega, true_and, sel_eq]

/-- The printed forward step by 256. -/
def F256 (acc : FVec Ideal S640x384 .f32) (sid : IVec S640x1 32) : FVec Ideal S640x384 .f32 :=
  addf acc (select (broadcastTo S640x384 (shapeCast S640x1 (cmpi .eq (concatenate S640x1 0 [⟨S256x1, broadcast S256x1 4294967295#32⟩,
      ⟨S384x1, extractStridedSlice S384x1 ![0, 0] sid slices_S640x1_o0_0_S384x1⟩] concatenates_S256x1_S384x1_S640x1_d0) sid)
      shapeCasts_S640x1_S640x1) broadcasts_S640x1_S640x384)
    (concatenate S640x384 0 [⟨S256x384, broadcast S256x384 (Scalar.ofBits .f32 0x00000000#32 : Ideal .f32)⟩,
      ⟨S384x384, extractStridedSlice S384x384 ![0, 0] acc slices_S640x384_o0_0_S384x384⟩] concatenates_S256x384_S384x384_S640x384_d0)
    (broadcast S640x384 (Scalar.ofBits .f32 0x00000000#32 : Ideal .f32)))

/-- The printed forward step by 256, read by rows, is the forward step by 256. -/
theorem F256_col (acc : FVec Ideal S640x384 .f32) (sid : IVec S640x1 32) (l : Fin 384) (k : ℕ) (hk : k < 640) :
    col (F256 acc sid) l k = fstep 256 (lab sid) (col acc l) k := by
  unfold fstep col lab
  simp only [dif_pos hk]
  pointwise [F256]
  by_cases hd : k < 256
  · rw [if_neg (c := 256 ≤ k ∧ _) (fun h => absurd h.1 (by omega))]
    simp only [hd, ↓reduceDIte, sel_same]
  · simp only [hd, ↓reduceDIte, show k - 256 < 640 from by omega, show 256 ≤ k from by omega, true_and, sel_eq]

/-- The printed forward step by 512. -/
def F512 (acc : FVec Ideal S640x384 .f32) (sid : IVec S640x1 32) : FVec Ideal S640x384 .f32 :=
  addf acc (select (broadcastTo S640x384 (shapeCast S640x1 (cmpi .eq (concatenate S640x1 0 [⟨S512x1, broadcast S512x1 4294967295#32⟩,
      ⟨S128x1, extractStridedSlice S128x1 ![0, 0] sid slices_S640x1_o0_0_S128x1⟩] concatenates_S512x1_S128x1_S640x1_d0) sid)
      shapeCasts_S640x1_S640x1) broadcasts_S640x1_S640x384)
    (concatenate S640x384 0 [⟨S512x384, broadcast S512x384 (Scalar.ofBits .f32 0x00000000#32 : Ideal .f32)⟩,
      ⟨S128x384, extractStridedSlice S128x384 ![0, 0] acc slices_S640x384_o0_0_S128x384⟩] concatenates_S512x384_S128x384_S640x384_d0)
    (broadcast S640x384 (Scalar.ofBits .f32 0x00000000#32 : Ideal .f32)))

/-- The printed forward step by 512, read by rows, is the forward step by 512. -/
theorem F512_col (acc : FVec Ideal S640x384 .f32) (sid : IVec S640x1 32) (l : Fin 384) (k : ℕ) (hk : k < 640) :
    col (F512 acc sid) l k = fstep 512 (lab sid) (col acc l) k := by
  unfold fstep col lab
  simp only [dif_pos hk]
  pointwise [F512]
  by_cases hd : k < 512
  · rw [if_neg (c := 512 ≤ k ∧ _) (fun h => absurd h.1 (by omega))]
    simp only [hd, ↓reduceDIte, sel_same]
  · simp only [hd, ↓reduceDIte, show k - 512 < 640 from by omega, show 512 ≤ k from by omega, true_and, sel_eq]

/-- The payload of a block: the rows' values side by side. -/
def fV (x0 : Vec Ideal S640x128 .f32) (x2 : Vec Ideal S640x1 .f32) (x3 : Vec Ideal S128x128 .f32) (x4 : Vec Ideal S1x128 .f32)
    (x5 : Vec Ideal S128x1 .f32) (x6 : Vec Ideal S1x1 .f32) : FVec Ideal S640x384 .f32 :=
  concatenate S640x384 1 [⟨S640x128, k0_pay6 x0 x3 x4 x5 x6 x2⟩, ⟨S640x128, k0_pay7 x0 x3 x4 x5 x6 x2⟩,
    ⟨S640x128, addf (k0_pay8 x0 x3 x4 x5 x6) (k0_pay9 x0 x3 x4 x5 x6 x2)⟩] concatenates_S640x128_S640x128_S640x128_S640x384_d1

/-- The payload of a block, read at a row and a column. -/
theorem fV_apply (x0 : Vec Ideal S640x128 .f32) (x2 : Vec Ideal S640x1 .f32) (x3 : Vec Ideal S128x128 .f32) (x4 : Vec Ideal S1x128 .f32)
    (x5 : Vec Ideal S128x1 .f32) (x6 : Vec Ideal S1x1 .f32) (i : Fin 640) (l : Fin 384) :
    fV x0 x2 x3 x4 x5 x6 (ix2 i l) = payF (fun q => k0_pay3 x0 x3 x4 (ix2 i q)) (k0_pay4 x0 x3 x4 x5 x6 (ix2 i 0))
      ((k0_pay4 x0 x3 x4 x5 x6 (ix2 i 0) : EReal) * x2 (ix2 i 0)) l := by
  unfold payF
  pointwise [fV, k0_pay5, k0_pay6, k0_pay7, k0_pay8, k0_pay9]
  by_cases h1 : l.val < 128
  · simp only [h1, ↓reduceDIte]
  · by_cases h2 : l.val < 256
    · simp only [h1, h2, show l.val - 128 < 128 from by omega, ↓reduceDIte]
    · simp only [h1, h2, show ¬ l.val - 128 < 128 from by omega, ↓reduceDIte]
      rw [sel_iota _ 0 (by omega) (by omega), sel_iota _ 1 (by omega) (by omega)]
      refine congrArg₂ (· + ·) (if_congr (by omega) rfl rfl) (if_congr (by omega) rfl rfl)

/-- The printed addition of the carried total to the rows of the carried label. -/
def FC (acc : FVec Ideal S640x384 .f32) (sid : IVec S640x1 32) (s0 : BitVec 32) (s1 : Vec Ideal S1x384 .f32) : FVec Ideal S640x384 .f32 :=
  addf acc (select (broadcastTo S640x384 (shapeCast S640x1 (cmpi .eq sid (broadcast S640x1 s0)) shapeCasts_S640x1_S640x1) broadcasts_S640x1_S640x384)
    (broadcastTo S640x384 (shapeCast S1x384 s1 shapeCasts_S1x384_S1x384) broadcasts_S1x384_S640x384)
    (broadcast S640x384 (Scalar.ofBits .f32 0x00000000#32 : Ideal .f32)))

/-- The carried total's addition, read at a row and a column. -/
theorem FC_apply (acc : FVec Ideal S640x384 .f32) (sid : IVec S640x1 32) (s0 : BitVec 32) (s1 : Vec Ideal S1x384 .f32) (i : Fin 640) (l : Fin 384) :
    FC acc sid s0 s1 (ix2 i l) = (acc (ix2 i l) : EReal) + if sid (ix2 i 0) = s0 then s1 (ix2 0 l) else 0 := by
  pointwise [FC]
  rw [sel_eq]

/-- The block of running totals is ten forward steps of the payload and the carried total's addition. -/
theorem fP_eq (x0 : Vec Ideal S640x128 .f32) (x1 : Vec Ideal S640x1 .i32) (x2 : Vec Ideal S640x1 .f32) (x3 : Vec Ideal S128x128 .f32) (x4 : Vec Ideal S1x128 .f32)
    (x5 : Vec Ideal S128x1 .f32) (x6 : Vec Ideal S1x1 .f32) (s0 : BitVec 32) (s1 : Vec Ideal S1x384 .f32) :
    fP x0 x1 x2 x3 x4 x5 x6 s0 s1
      = FC (F512 (F256 (F128 (F64 (F32 (F16 (F8 (F4 (F2 (F1 (fV x0 x2 x3 x4 x5 x6) (k0_pay10 x1)) (k0_pay10 x1)) (k0_pay10 x1)) (k0_pay10 x1))
          (k0_pay10 x1)) (k0_pay10 x1)) (k0_pay10 x1)) (k0_pay10 x1)) (k0_pay10 x1)) (k0_pay10 x1)) (k0_pay10 x1) s0 s1 := rfl

/-- The block of running totals, read at a row and a column: the scan of the payload's column, and the carried total where the label is
    the carried one. -/
theorem fP_apply (x0 : Vec Ideal S640x128 .f32) (x1 : Vec Ideal S640x1 .i32) (x2 : Vec Ideal S640x1 .f32) (x3 : Vec Ideal S128x128 .f32) (x4 : Vec Ideal S1x128 .f32)
    (x5 : Vec Ideal S128x1 .f32) (x6 : Vec Ideal S1x1 .f32) (s0 : BitVec 32) (s1 : Vec Ideal S1x384 .f32) (i : Fin 640) (l : Fin 384) :
    fP x0 x1 x2 x3 x4 x5 x6 s0 s1 (ix2 i l)
      = (fscan (lab x1) (col (fV x0 x2 x3 x4 x5 x6) l) i.val : EReal) + if x1 (ix2 i 0) = s0 then s1 (ix2 0 l) else 0 := by
  have h10 : k0_pay10 (F := Ideal) x1 = x1 := shapeCast_self _ _
  rw [fP_eq, h10, FC_apply]
  refine congrArg (· + _) ?_
  refine (show ∀ X : FVec Ideal S640x384 .f32, X (ix2 i l) = col X l i.val from fun X => by unfold col; rw [dif_pos i.isLt]) _ |>.trans ?_
  exact (F512_col _ _ l _ i.isLt).trans <| fstep_congr 512 _ (fun k hk => (F256_col _ _ l k hk).trans <| fstep_congr 256 _ (fun k hk =>
    (F128_col _ _ l k hk).trans <| fstep_congr 128 _ (fun k hk => (F64_col _ _ l k hk).trans <| fstep_congr 64 _ (fun k hk =>
    (F32_col _ _ l k hk).trans <| fstep_congr 32 _ (fun k hk => (F16_col _ _ l k hk).trans <| fstep_congr 16 _ (fun k hk =>
    (F8_col _ _ l k hk).trans <| fstep_congr 8 _ (fun k hk => (F4_col _ _ l k hk).trans <| fstep_congr 4 _ (fun k hk =>
    (F2_col _ _ l k hk).trans <| fstep_congr 2 _ (fun k hk => F1_col _ _ l k hk) k hk) k hk) k hk) k hk) k hk) k hk) k hk) k hk) _ i.isLt

end Cert.Val

end
-- ==== Proof.Val.BwdPay.lean ====
/- The backward kernel's block of segment totals, read at a row and a column. -/
module

public import proofs.«01_k».proof.Proof.Val.Pay
public import proofs.«01_k».proof.Proof.KI.BwdBody

@[expose] public section

set_option maxRecDepth 16384

noncomputable section

namespace Cert.Val

open Cert.KernelIdeal Cert.KernelIdeal.Gen Cert.KernelIdeal.Hand
open Idealize.ShloMosaic Idealize.ShloMosaic.TcCoe

/-- The printed backward step by 1. -/
def B1 (acc : FVec Ideal S640x384 .f32) (sid : IVec S640x1 32) : FVec Ideal S640x384 .f32 :=
  addf acc (select (broadcastTo S640x384 (shapeCast S640x1 (cmpi .eq (concatenate S640x1 0 [
      ⟨S639x1, extractStridedSlice S639x1 ![1, 0] sid slices_S640x1_o1_0_S639x1⟩, ⟨S1x1, broadcast S1x1 4294967293#32⟩] concatenates_S639x1_S1x1_S640x1_d0) sid)
      shapeCasts_S640x1_S640x1) broadcasts_S640x1_S640x384)
    (concatenate S640x384 0 [⟨S639x384, extractStridedSlice S639x384 ![1, 0] acc slices_S640x384_o1_0_S639x384⟩,
      ⟨S1x384, broadcast S1x384 (Scalar.ofBits .f32 0x00000000#32 : Ideal .f32)⟩] concatenates_S639x384_S1x384_S640x384_d0)
    (broadcast S640x384 (Scalar.ofBits .f32 0x00000000#32 : Ideal .f32)))

/-- The printed backward step by 1, read by rows, is the backward step by 1. -/
theorem B1_col (acc : FVec Ideal S640x384 .f32) (sid : IVec S640x1 32) (l : Fin 384) (k : ℕ) (hk : k < 640) :
    col (B1 acc sid) l k = bstep 640 1 (lab sid) (col acc l) k := by
  unfold bstep col lab
  simp only [dif_pos hk]
  pointwise [B1]
  by_cases hd : k < 639
  · simp only [hd, ↓reduceDIte, show k + 1 < 640 from by omega, true_and, sel_eq, Nat.add_comm 1 k]
  · rw [if_neg (c := k + 1 < 640 ∧ _) (fun h => absurd h.1 (by omega))]
    simp only [hd, ↓reduceDIte, sel_same]

/-- The printed backward step by 2. -/
def B2 (acc : FVec Ideal S640x384 .f32) (sid : IVec S640x1 32) : FVec Ideal S640x384 .f32 :=
  addf acc (select (broadcastTo S640x384 (shapeCast S640x1 (cmpi .eq (concatenate S640x1 0 [
      ⟨S638x1, extractStridedSlice S638x1 ![2, 0] sid slices_S640x1_o2_0_S638x1⟩, ⟨S2x1, broadcast S2x1 4294967293#32⟩] concatenates_S638x1_S2x1_S640x1_d0) sid)
      shapeCasts_S640x1_S640x1) broadcasts_S640x1_S640x384)
    (concatenate S640x384 0 [⟨S638x384, extractStridedSlice S638x384 ![2, 0] acc slices_S640x384_o2_0_S638x384⟩,
      ⟨S2x384, broadcast S2x384 (Scalar.ofBits .f32 0x00000000#32 : Ideal .f32)⟩] concatenates_S638x384_S2x384_S640x384_d0)
    (broadcast S640x384 (Scalar.ofBits .f32 0x00000000#32 : Ideal .f32)))

/-- The printed backward step by 2, read by rows, is the backward step by 2. -/
theorem B2_col (acc : FVec Ideal S640x384 .f32) (sid : IVec S640x1 32) (l : Fin 384) (k : ℕ) (hk : k < 640) :
    col (B2 acc sid) l k = bstep 640 2 (lab sid) (col acc l) k := by
  unfold bstep col lab
  simp only [dif_pos hk]
  pointwise [B2]
  by_cases hd : k < 638
  · simp only [hd, ↓reduceDIte, show k + 2 < 640 from by omega, true_and, sel_eq, Nat.add_comm 2 k]
  · rw [if_neg (c := k + 2 < 640 ∧ _) (fun h => absurd h.1 (by omega))]
    simp only [hd, ↓reduceDIte, sel_same]

/-- The printed backward step by 4. -/
def B4 (acc : FVec Ideal S640x384 .f32) (sid : IVec S640x1 32) : FVec Ideal S640x384 .f32 :=
  addf acc (select (broadcastTo S640x384 (shapeCast S640x1 (cmpi .eq (concatenate S640x1 0 [
      ⟨S636x1, extractStridedSlice S636x1 ![4, 0] sid slices_S640x1_o4_0_S636x1⟩, ⟨S4x1, broadcast S4x1 4294967293#32⟩] concatenates_S636x1_S4x1_S640x1_d0) sid)
      shapeCasts_S640x1_S640x1) broadcasts_S640x1_S640x384)
    (concatenate S640x384 0 [⟨S636x384, extractStridedSlice S636x384 ![4, 0] acc slices_S640x384_o4_0_S636x384⟩,
      ⟨S4x384, broadcast S4x384 (Scalar.ofBits .f32 0x00000000#32 : Ideal .f32)⟩] concatenates_S636x384_S4x384_S640x384_d0)
    (broadcast S640x384 (Scalar.ofBits .f32 0x00000000#32 : Ideal .f32)))

/-- The printed backward step by 4, read by rows, is the backward step by 4. -/
theorem B4_col (acc : FVec Ideal S640x384 .f32) (sid : IVec S640x1 32) (l : Fin 384) (k : ℕ) (hk : k < 640) :
    col (B4 acc sid) l k = bstep 640 4 (lab sid) (col acc l) k := by
  unfold bstep col lab
  simp only [dif_pos hk]
  pointwise [B4]
  by_cases hd : k < 636
  · simp only [hd, ↓reduceDIte, show k + 4 < 640 from by omega, true_and, sel_eq, Nat.add_comm 4 k]
  · rw [if_neg (c := k + 4 < 640 ∧ _) (fun h => absurd h.1 (by omega))]
    simp only [hd, ↓reduceDIte, sel_same]

/-- The printed backward step by 8. -/
def B8 (acc : FVec Ideal S640x384 .f32) (sid : IVec S640x1 32) : FVec Ideal S640x384 .f32 :=
  addf acc (select (broadcastTo S640x384 (shapeCast S640x1 (cmpi .eq (concatenate S640x1 0 [
      ⟨S632x1, extractStridedSlice S632x1 ![8, 0] sid slices_S640x1_o8_0_S632x1⟩, ⟨S8x1, broadcast S8x1 4294967293#32⟩] concatenates_S632x1_S8x1_S640x1_d0) sid)
      shapeCasts_S640x1_S640x1) broadcasts_S640x1_S640x384)
    (concatenate S640x384 0 [⟨S632x384, extractStridedSlice S632x384 ![8, 0] acc slices_S640x384_o8_0_S632x384⟩,
      ⟨S8x384, broadcast S8x384 (Scalar.ofBits .f32 0x00000000#32 : Ideal .f32)⟩] concatenates_S632x384_S8x384_S640x384_d0)
    (broadcast S640x384 (Scalar.ofBits .f32 0x00000000#32 : Ideal .f32)))

/-- The printed backward step by 8, read by rows, is the backward step by 8. -/
theorem B8_col (acc : FVec Ideal S640x384 .f32) (sid : IVec S640x1 32) (l : Fin 384) (k : ℕ) (hk : k < 640) :
    col (B8 acc sid) l k = bstep 640 8 (lab sid) (col acc l) k := by
  unfold bstep col lab
  simp only [dif_pos hk]
  pointwise [B8]
  by_cases hd : k < 632
  · simp only [hd, ↓reduceDIte, show k + 8 < 640 from by omega, true_and, sel_eq, Nat.add_comm 8 k]
  · rw [if_neg (c := k + 8 < 640 ∧ _) (fun h => absurd h.1 (by omega))]
    simp only [hd, ↓reduceDIte, sel_same]

/-- The printed backward step by 16. -/
def B16 (acc : FVec Ideal S640x384 .f32) (sid : IVec S640x1 32) : FVec Ideal S640x384 .f32 :=
  addf acc (select (broadcastTo S640x384 (shapeCast S640x1 (cmpi .eq (concatenate S640x1 0 [
      ⟨S624x1, extractStridedSlice S624x1 ![16, 0] sid slices_S640x1_o16_0_S624x1⟩, ⟨S16x1, broadcast S16x1 4294967293#32⟩] concatenates_S624x1_S16x1_S640x1_d0) sid)
      shapeCasts_S640x1_S640x1) broadcasts_S640x1_S640x384)
    (concatenate S640x384 0 [⟨S624x384, extractStridedSlice S624x384 ![16, 0] acc slices_S640x384_o16_0_S624x384⟩,
      ⟨S16x384, broadcast S16x384 (Scalar.ofBits .f32 0x00000000#32 : Ideal .f32)⟩] concatenates_S624x384_S16x384_S640x384_d0)
    (broadcast S640x384 (Scalar.ofBits .f32 0x00000000#32 : Ideal .f32)))

/-- The printed backward step by 16, read by rows, is the backward step by 16. -/
theorem B16_col (acc : FVec Ideal S640x384 .f32) (sid : IVec S640x1 32) (l : Fin 384) (k : ℕ) (hk : k < 640) :
    col (B16 acc sid) l k = bstep 640 16 (lab sid) (col acc l) k := by
  unfold bstep col lab
  simp only [dif_pos hk]
  pointwise [B16]
  by_cases hd : k < 624
  · simp only [hd, ↓reduceDIte, show k + 16 < 640 from by omega, true_and, sel_eq, Nat.add_comm 16 k]
  · rw [if_neg (c := k + 16 < 640 ∧ _) (fun h => absurd h.1 (by omega))]
    simp only [hd, ↓reduceDIte, sel_same]

/-- The printed backward step by 32. -/
def B32 (acc : FVec Ideal S640x384 .f32) (sid : IVec S640x1 32) : FVec Ideal S640x384 .f32 :=
  addf acc (select (broadcastTo S640x384 (shapeCast S640x1 (cmpi .eq (concatenate S640x1 0 [
      ⟨S608x1, extractStridedSlice S608x1 ![32, 0] sid slices_S640x1_o32_0_S608x1⟩, ⟨S32x1, broadcast S32x1 4294967293#32⟩] concatenates_S608x1_S32x1_S640x1_d0) sid)
      shapeCasts_S640x1_S640x1) broadcasts_S640x1_S640x384)
    (concatenate S640x384 0 [⟨S608x384, extractStridedSlice S608x384 ![32, 0] acc slices_S640x384_o32_0_S608x384⟩,
      ⟨S32x384, broadcast S32x384 (Scalar.ofBits .f32 0x00000000#32 : Ideal .f32)⟩] concatenates_S608x384_S32x384_S640x384_d0)
    (broadcast S640x384 (Scalar.ofBits .f32 0x00000000#32 : Ideal .f32)))

/-- The printed backward step by 32, read by rows, is the backward step by 32. -/
theorem B32_col (acc : FVec Ideal S640x384 .f32) (sid : IVec S640x1 32) (l : Fin 384) (k : ℕ) (hk : k < 640) :
    col (B32 acc sid) l k = bstep 640 32 (lab sid) (col acc l) k := by
  unfold bstep col lab
  simp only [dif_pos hk]
  pointwise [B32]
  by_cases hd : k < 608
  · simp only [hd, ↓reduceDIte, show k + 32 < 640 from by omega, true_and, sel_eq, Nat.add_comm 32 k]
  · rw [if_neg (c := k + 32 < 640 ∧ _) (fun h => absurd h.1 (by omega))]
    simp only [hd, ↓reduceDIte, sel_same]

/-- The printed backward step by 64. -/
def B64 (acc : FVec Ideal S640x384 .f32) (sid : IVec S640x1 32) : FVec Ideal S640x384 .f32 :=
  addf acc (select (broadcastTo S640x384 (shapeCast S640x1 (cmpi .eq (concatenate S640x1 0 [
      ⟨S576x1, extractStridedSlice S576x1 ![64, 0] sid slices_S640x1_o64_0_S576x1⟩, ⟨S64x1, broadcast S64x1 4294967293#32⟩] concatenates_S576x1_S64x1_S640x1_d0) sid)
      shapeCasts_S640x1_S640x1) broadcasts_S640x1_S640x384)
    (concatenate S640x384 0 [⟨S576x384, extractStridedSlice S576x384 ![64, 0] acc slices_S640x384_o64_0_S576x384⟩,
      ⟨S64x384, broadcast S64x384 (Scalar.ofBits .f32 0x00000000#32 : Ideal .f32)⟩] concatenates_S576x384_S64x384_S640x384_d0)
    (broadcast S640x384 (Scalar.ofBits .f32 0x00000000#32 : Ideal .f32)))

/-- The printed backward step by 64, read by rows, is the backward step by 64. -/
theorem B64_col (acc : FVec Ideal S640x384 .f32) (sid : IVec S640x1 32) (l : Fin 384) (k : ℕ) (hk : k < 640) :
    col (B64 acc sid) l k = bstep 640 64 (lab sid) (col acc l) k := by
  unfold bstep col lab
  simp only [dif_pos hk]
  pointwise [B64]
  by_cases hd : k < 576
  · simp only [hd, ↓reduceDIte, show k + 64 < 640 from by omega, true_and, sel_eq, Nat.add_comm 64 k]
  · rw [if_neg (c := k + 64 < 640 ∧ _) (fun h => absurd h.1 (by omega))]
    simp only [hd, ↓reduceDIte, sel_same]

/-- The printed backward step by 128. -/
def B128 (acc : FVec Ideal S640x384 .f32) (sid : IVec S640x1 32) : FVec Ideal S640x384 .f32 :=
  addf acc (select (broadcastTo S640x384 (shapeCast S640x1 (cmpi .eq (concatenate S640x1 0 [
      ⟨S512x1, extractStridedSlice S512x1 ![128, 0] sid slices_S640x1_o128_0_S512x1⟩, ⟨S128x1, broadcast S128x1 4294967293#32⟩] concatenates_S512x1_S128x1_S640x1_d0) sid)
      shapeCasts_S640x1_S640x1) broadcasts_S640x1_S640x384)
    (concatenate S640x384 0 [⟨S512x384, extractStridedSlice S512x384 ![128, 0] acc slices_S640x384_o128_0_S512x384⟩,
      ⟨S128x384, broadcast S128x384 (Scalar.ofBits .f32 0x00000000#32 : Ideal .f32)⟩] concatenates_S512x384_S128x384_S640x384_d0)
    (broadcast S640x384 (Scalar.ofBits .f32 0x00000000#32 : Ideal .f32)))

/-- The printed backward step by 128, read by rows, is the backward step by 128. -/
theorem B128_col (acc : FVec Ideal S640x384 .f32) (sid : IVec S640x1 32) (l : Fin 384) (k : ℕ) (hk : k < 640) :
    col (B128 acc sid) l k = bstep 640 128 (lab sid) (col acc l) k := by
  unfold bstep col lab
  simp only [dif_pos hk]
  pointwise [B128]
  by_cases hd : k < 512
  · simp only [hd, ↓reduceDIte, show k + 128 < 640 from by omega, true_and, sel_eq, Nat.add_comm 128 k]
  · rw [if_neg (c := k + 128 < 640 ∧ _) (fun h => absurd h.1 (by omega))]
    simp only [hd, ↓reduceDIte, sel_same]

/-- The printed backward step by 256. -/
def B256 (acc : FVec Ideal S640x384 .f32) (sid : IVec S640x1 32) : FVec Ideal S640x384 .f32 :=
  addf acc (select (broadcastTo S640x384 (shapeCast S640x1 (cmpi .eq (concatenate S640x1 0 [
      ⟨S384x1, extractStridedSlice S384x1 ![256, 0] sid slices_S640x1_o256_0_S384x1⟩, ⟨S256x1, broadcast S256x1 4294967293#32⟩] concatenates_S384x1_S256x1_S640x1_d0) sid)
      shapeCasts_S640x1_S640x1) broadcasts_S640x1_S640x384)
    (concatenate S640x384 0 [⟨S384x384, extractStridedSlice S384x384 ![256, 0] acc slices_S640x384_o256_0_S384x384⟩,
      ⟨S256x384, broadcast S256x384 (Scalar.ofBits .f32 0x00000000#32 : Ideal .f32)⟩] concatenates_S384x384_S256x384_S640x384_d0)
    (broadcast S640x384 (Scalar.ofBits .f32 0x00000000#32 : Ideal .f32)))

/-- The printed backward step by 256, read by rows, is the backward step by 256. -/
theorem B256_col (acc : FVec Ideal S640x384 .f32) (sid : IVec S640x1 32) (l : Fin 384) (k : ℕ) (hk : k < 640) :
    col (B256 acc sid) l k = bstep 640 256 (lab sid) (col acc l) k := by
  unfold bstep col lab
  simp only [dif_pos hk]
  pointwise [B256]
  by_cases hd : k < 384
  · simp only [hd, ↓reduceDIte, show k + 256 < 640 from by omega, true_and, sel_eq, Nat.add_comm 256 k]
  · rw [if_neg (c := k + 256 < 640 ∧ _) (fun h => absurd h.1 (by omega))]
    simp only [hd, ↓reduceDIte, sel_same]

/-- The printed backward step by 512. -/
def B512 (acc : FVec Ideal S640x384 .f32) (sid : IVec S640x1 32) : FVec Ideal S640x384 .f32 :=
  addf acc (select (broadcastTo S640x384 (shapeCast S640x1 (cmpi .eq (concatenate S640x1 0 [
      ⟨S128x1, extractStridedSlice S128x1 ![512, 0] sid slices_S640x1_o512_0_S128x1⟩, ⟨S512x1, broadcast S512x1 4294967293#32⟩] concatenates_S128x1_S512x1_S640x1_d0) sid)
      shapeCasts_S640x1_S640x1) broadcasts_S640x1_S640x384)
    (concatenate S640x384 0 [⟨S128x384, extractStridedSlice S128x384 ![512, 0] acc slices_S640x384_o512_0_S128x384⟩,
      ⟨S512x384, broadcast S512x384 (Scalar.ofBits .f32 0x00000000#32 : Ideal .f32)⟩] concatenates_S128x384_S512x384_S640x384_d0)
    (broadcast S640x384 (Scalar.ofBits .f32 0x00000000#32 : Ideal .f32)))

/-- The printed backward step by 512, read by rows, is the backward step by 512. -/
theorem B512_col (acc : FVec Ideal S640x384 .f32) (sid : IVec S640x1 32) (l : Fin 384) (k : ℕ) (hk : k < 640) :
    col (B512 acc sid) l k = bstep 640 512 (lab sid) (col acc l) k := by
  unfold bstep col lab
  simp only [dif_pos hk]
  pointwise [B512]
  by_cases hd : k < 128
  · simp only [hd, ↓reduceDIte, show k + 512 < 640 from by omega, true_and, sel_eq, Nat.add_comm 512 k]
  · rw [if_neg (c := k + 512 < 640 ∧ _) (fun h => absurd h.1 (by omega))]
    simp only [hd, ↓reduceDIte, sel_same]

/-- The block's payload, read at a row and a column. -/
theorem bV_apply (x2 : Vec Ideal S640x128 .f32) (x3 x4 : Vec Ideal S640x1 .f32) (i : Fin 640) (l : Fin 384) :
    k1_pay7 (F := Ideal) x2 x3 x4 (ix2 i l) = payF (fun q => x2 (ix2 i q)) (x3 (ix2 i 0)) ((x3 (ix2 i 0) : EReal) * x4 (ix2 i 0)) l := by
  unfold payF
  pointwise [k1_pay7, k1_pay6, k1_pay5, k1_pay4]
  by_cases h1 : l.val < 128
  · simp only [h1, ↓reduceDIte]
  · by_cases h2 : l.val < 256
    · simp only [h1, h2, show l.val - 128 < 128 from by omega, ↓reduceDIte]
    · simp only [h1, h2, show ¬ l.val - 128 < 128 from by omega, ↓reduceDIte]
      rw [sel_iota _ 0 (by omega) (by omega), sel_iota _ 1 (by omega) (by omega)]
      refine congrArg₂ (· + ·) (if_congr (by omega) rfl rfl) (if_congr (by omega) rfl rfl)

/-- The printed segment totals of a block from its running totals `P`, its suffix totals `R`, its own values `V` and what is carried. -/
def BT (P R V : FVec Ideal S640x384 .f32) (sid : IVec S640x1 32) (s0 : BitVec 32) (s1 : Vec Ideal S1x384 .f32) : FVec Ideal S640x384 .f32 :=
  addf (subf (addf P R) V) (select (broadcastTo S640x384 (shapeCast S640x1 (cmpi .eq sid (broadcast S640x1 s0)) shapeCasts_S640x1_S640x1) broadcasts_S640x1_S640x384)
    (broadcastTo S640x384 (shapeCast S1x384 (subf s1 (extractStridedSlice S1x384 ![639, 0] P slices_S640x384_o639_0_S1x384)) shapeCasts_S1x384_S1x384) broadcasts_S1x384_S640x384)
    (broadcast S640x384 (Scalar.ofBits .f32 0x00000000#32 : Ideal .f32)))

/-- The segment totals, read at a row and a column. -/
theorem BT_apply (P R V : FVec Ideal S640x384 .f32) (sid : IVec S640x1 32) (s0 : BitVec 32) (s1 : Vec Ideal S1x384 .f32) (i : Fin 640) (l : Fin 384) :
    BT P R V sid s0 s1 (ix2 i l) = (P (ix2 i l) + R (ix2 i l) - V (ix2 i l) : EReal)
      + if sid (ix2 i 0) = s0 then (s1 (ix2 0 l) - P (ix2 639 l) : EReal) else 0 := by
  pointwise [BT]
  rw [sel_eq]

/-- The block of segment totals the backward kernel forms. -/
def bT (x0 : Vec Ideal S640x384 .f32) (x1 : Vec Ideal S640x1 .i32) (x2 : Vec Ideal S640x128 .f32) (x3 x4 : Vec Ideal S640x1 .f32) (s0 : BitVec 32)
    (s1 : Vec Ideal S1x384 .f32) : FVec Ideal S640x384 .f32 :=
  k1_pay16 (k1_pay2 x1) (k1_pay3 x0) (k1_pay7 x2 x3 x4) (b127 x1 x2 x3 x4) (b130 x1 x2 x3 x4) (k1_pay15 (k1_pay2 x1)) z0 s1 s0

/-- The block of segment totals is ten backward steps of the payload, combined with the running totals and what is carried. -/
theorem bT_eq (x0 : Vec Ideal S640x384 .f32) (x1 : Vec Ideal S640x1 .i32) (x2 : Vec Ideal S640x128 .f32) (x3 x4 : Vec Ideal S640x1 .f32) (s0 : BitVec 32)
    (s1 : Vec Ideal S1x384 .f32) :
    bT x0 x1 x2 x3 x4 s0 s1 = BT (k1_pay3 x0)
      (B512 (B256 (B128 (B64 (B32 (B16 (B8 (B4 (B2 (B1 (k1_pay7 x2 x3 x4) (k1_pay2 x1)) (k1_pay2 x1)) (k1_pay2 x1)) (k1_pay2 x1)) (k1_pay2 x1)) (k1_pay2 x1)) (k1_pay2 x1)) (k1_pay2 x1)) (k1_pay2 x1)) (k1_pay2 x1))
      (k1_pay7 x2 x3 x4) (k1_pay2 x1) s0 s1 := rfl

/-- The block of segment totals, read at a row and a column. -/
theorem bT_apply (x0 : Vec Ideal S640x384 .f32) (x1 : Vec Ideal S640x1 .i32) (x2 : Vec Ideal S640x128 .f32) (x3 x4 : Vec Ideal S640x1 .f32) (s0 : BitVec 32)
    (s1 : Vec Ideal S1x384 .f32) (i : Fin 640) (l : Fin 384) :
    bT x0 x1 x2 x3 x4 s0 s1 (ix2 i l)
      = ((x0 (ix2 i l) : EReal) + bscan 640 (lab x1) (col (k1_pay7 x2 x3 x4) l) i.val - k1_pay7 x2 x3 x4 (ix2 i l))
        + if x1 (ix2 i 0) = s0 then ((s1 (ix2 0 l) : EReal) - x0 (ix2 639 l)) else 0 := by
  have h2 : k1_pay2 (F := Ideal) x1 = x1 := shapeCast_self _ _
  have h3 : k1_pay3 (F := Ideal) x0 = x0 := shapeCast_self _ _
  rw [bT_eq, h2, h3, BT_apply]
  refine congrArg (· + _) (congrArg (· - _) (congrArg (_ + ·) ?_))
  refine (show ∀ X : FVec Ideal S640x384 .f32, X (ix2 i l) = col X l i.val from fun X => by unfold col; rw [dif_pos i.isLt]) _ |>.trans ?_
  exact (B512_col _ _ l _ i.isLt).trans <| bstep_congr 512 _ (fun k hk => (B256_col _ _ l k hk).trans <| bstep_congr 256 _ (fun k hk =>
    (B128_col _ _ l k hk).trans <| bstep_congr 128 _ (fun k hk => (B64_col _ _ l k hk).trans <| bstep_congr 64 _ (fun k hk =>
    (B32_col _ _ l k hk).trans <| bstep_congr 32 _ (fun k hk => (B16_col _ _ l k hk).trans <| bstep_congr 16 _ (fun k hk =>
    (B8_col _ _ l k hk).trans <| bstep_congr 8 _ (fun k hk => (B4_col _ _ l k hk).trans <| bstep_congr 4 _ (fun k hk =>
    (B2_col _ _ l k hk).trans <| bstep_congr 2 _ (fun k hk => B1_col _ _ l k hk) k hk) k hk) k hk) k hk) k hk) k hk) k hk) k hk) _ i.isLt

end Cert.Val

end
-- ==== Proof.Val.Blocks.lean ====
/- The two kernels' blocks in terms of the whole array's rows: running totals going forward, segment totals coming back. -/
module

public import proofs.«01_k».proof.Proof.Val.FwdPay
public import proofs.«01_k».proof.Proof.Val.BwdPay

@[expose] public section

set_option maxRecDepth 16384

noncomputable section

namespace Cert.Val

open Cert.KernelIdeal Cert.KernelIdeal.Gen Cert.KernelIdeal.Hand
open Idealize.ShloMosaic Idealize.ShloMosaic.TcCoe

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real's selection, as an extended real. -/
theorem coe_ite (p : Prop) [Decidable p] (x : ℝ) : ((if p then x else 0 : ℝ) : EReal) = if p then (x : EReal) else 0 := by
  split <;> simp

/-- Totals of real rows are real. -/
theorem coe_below {β : Type} [DecidableEq β] (seg : ℕ → β) (v : ℕ → ℝ) (b : ℕ) (s : β) :
    below seg (fun r => (v r : EReal)) b s = ((below seg v b s : ℝ) : EReal) := by
  unfold below
  rw [coe_sum]
  exact Finset.sum_congr rfl fun j _ => (coe_ite _ _).symm

/-- The labels of a block, by row number, are contiguous when the array's are. -/
theorem lab_contig {N : ℕ} {seg : ℕ → BitVec 32} (hc : Contig seg N) (b : ℕ) (hb : b + 640 ≤ N) (x1 : IVec S640x1 32)
    (hS : ∀ i : Fin 640, x1 (ix2 i 0) = seg (b + i.val)) : Contig (lab x1) 640 := by
  have hl : ∀ i < 640, lab x1 i = seg (b + i) := fun i hi => by unfold lab; rw [dif_pos hi]; exact hS ⟨i, hi⟩
  intro i j k hij hjk hk e
  rw [hl i (by omega), hl k hk] at e
  rw [hl j (by omega), hl k hk]
  exact hc (b + i) (b + j) (b + k) (by omega) (by omega) (by omega) e

/-- A row of the forward block holds the total of the rows up to it with its label. -/
theorem fP_below {N : ℕ} {seg : ℕ → BitVec 32} (hc : Contig seg N) (V : Fin 384 → ℕ → EReal) (b : ℕ) (hb : b + 640 ≤ N)
    (x0 : Vec Ideal S640x128 .f32) (x1 : Vec Ideal S640x1 .i32) (x2 : Vec Ideal S640x1 .f32) (x3 : Vec Ideal S128x128 .f32) (x4 : Vec Ideal S1x128 .f32)
    (x5 : Vec Ideal S128x1 .f32) (x6 : Vec Ideal S1x1 .f32) (s0 : BitVec 32) (s1 : Vec Ideal S1x384 .f32)
    (hS : ∀ i : Fin 640, x1 (ix2 i 0) = seg (b + i.val)) (hV : ∀ (i : Fin 640) (l : Fin 384), fV x0 x2 x3 x4 x5 x6 (ix2 i l) = V l (b + i.val))
    (hcar : (b = 0 ∧ ∀ r < N, seg r ≠ s0) ∨ (0 < b ∧ s0 = seg (b - 1) ∧ ∀ l, s1 (ix2 0 l) = below seg (V l) b (seg (b - 1))))
    (i : Fin 640) (l : Fin 384) :
    fP x0 x1 x2 x3 x4 x5 x6 s0 s1 (ix2 i l) = below seg (V l) (b + i.val + 1) (seg (b + i.val)) := by
  have hl : ∀ j < 640, lab x1 j = seg (b + j) := fun j hj => by unfold lab; rw [dif_pos hj]; exact hS ⟨j, hj⟩
  have hv : ∀ j < 640, col (fV x0 x2 x3 x4 x5 x6) l j = V l (b + j) := fun j hj => by unfold col; rw [dif_pos hj]; exact hV ⟨j, hj⟩ l
  rw [fP_apply, fscan_eq (by decide) (lab_contig hc b hb x1 hS) _ _ i.isLt, below_split (V l) b 640 i.val i.isLt, add_comm]
  refine congrArg₂ (· + ·) ?_ (Finset.sum_congr rfl fun j hj => ?_)
  · rw [hS i]
    rcases hcar with ⟨rfl, h⟩ | ⟨h0, rfl, h⟩
    · rw [if_neg (h _ (by omega))]
      exact (Finset.sum_range_zero _).symm
    · by_cases e : seg (b + i.val) = seg (b - 1)
      · rw [if_pos e, h l, e]
      · rw [if_neg e, below_zero hc (V l) b (b + i.val) h0 (by omega) (by omega) e]
  · have hj := Finset.mem_range.1 hj
    rw [hl j hj, hl i.val i.isLt, hv j hj]

/-- The totals up to a row, and from it to the block's end, less the row's own value: the totals up to the block's end. -/
theorem below_join {β : Type} [DecidableEq β] (seg : ℕ → β) (v : ℕ → ℝ) (b i : ℕ) (hi : i < 640) :
    below seg v (b + i + 1) (seg (b + i)) + (∑ j ∈ Finset.range 640, if i ≤ j ∧ seg (b + j) = seg (b + i) then v (b + j) else 0) - v (b + i)
      = below seg v (b + 640) (seg (b + i)) := by
  rw [below_split v b 640 i hi, show b + 640 = b + 639 + 1 from rfl, below_split v b 640 639 (by omega), add_assoc, add_sub_assoc, ← Finset.sum_add_distrib]
  refine congrArg (_ + ·) ?_
  rw [sub_eq_iff_eq_add]
  have h1 : v (b + i) = ∑ j ∈ Finset.range 640, if j = i then v (b + j) else 0 := by
    rw [Finset.sum_ite_eq' (Finset.range 640) i fun j => v (b + j), if_pos (Finset.mem_range.2 hi)]
  rw [h1, ← Finset.sum_add_distrib]
  refine Finset.sum_congr rfl fun j hj => ?_
  have hj := Finset.mem_range.1 hj
  by_cases hs : seg (b + j) = seg (b + i)
  · rcases lt_trichotomy j i with h | h | h
    · rw [if_pos ⟨h.le, hs⟩, if_neg (fun q => absurd q.1 (by omega)), if_pos ⟨by omega, hs⟩, if_neg (by omega)]
    · rw [if_pos ⟨h.le, hs⟩, if_pos ⟨h.ge, hs⟩, if_pos ⟨by omega, hs⟩, if_pos h]
    · rw [if_neg (fun q => absurd q.1 (by omega)), if_pos ⟨h.le, hs⟩, if_pos ⟨by omega, hs⟩, if_neg (by omega), zero_add, add_zero]
  · rw [if_neg fun q => hs q.2, if_neg fun q => hs q.2, if_neg fun q => hs q.2, if_neg fun q => hs (by rw [q])]

/-- A row of the backward block holds the total of all rows with its label. -/
theorem bT_below {N : ℕ} {seg : ℕ → BitVec 32} (hc : Contig seg N) (v : Fin 384 → ℕ → ℝ) (b : ℕ) (hb : b + 640 ≤ N)
    (x0 : Vec Ideal S640x384 .f32) (x1 : Vec Ideal S640x1 .i32) (x2 : Vec Ideal S640x128 .f32) (x3 x4 : Vec Ideal S640x1 .f32) (s0 : BitVec 32)
    (s1 : Vec Ideal S1x384 .f32) (hS : ∀ i : Fin 640, x1 (ix2 i 0) = seg (b + i.val))
    (hV : ∀ (i : Fin 640) (l : Fin 384), k1_pay7 (F := Ideal) x2 x3 x4 (ix2 i l) = (v l (b + i.val) : EReal))
    (hP : ∀ (i : Fin 640) (l : Fin 384), x0 (ix2 i l) = ((below seg (v l) (b + i.val + 1) (seg (b + i.val)) : ℝ) : EReal))
    (hcar : (b + 640 = N ∧ ∀ r < N, seg r ≠ s0) ∨ (b + 640 < N ∧ s0 = seg (b + 640) ∧ ∀ l, s1 (ix2 0 l) = ((below seg (v l) N (seg (b + 640)) : ℝ) : EReal)))
    (i : Fin 640) (l : Fin 384) :
    bT x0 x1 x2 x3 x4 s0 s1 (ix2 i l) = ((below seg (v l) N (seg (b + i.val)) : ℝ) : EReal) := by
  have hl : ∀ j < 640, lab x1 j = seg (b + j) := fun j hj => by unfold lab; rw [dif_pos hj]; exact hS ⟨j, hj⟩
  have hv : ∀ j < 640, col (k1_pay7 x2 x3 x4) l j = (v l (b + j) : EReal) := fun j hj => by unfold col; rw [dif_pos hj]; exact hV ⟨j, hj⟩ l
  have hR : bscan 640 (lab x1) (col (k1_pay7 x2 x3 x4) l) i.val
      = ((∑ j ∈ Finset.range 640, if i.val ≤ j ∧ seg (b + j) = seg (b + i.val) then v l (b + j) else 0 : ℝ) : EReal) := by
    rw [bscan_eq (by decide) (lab_contig hc b hb x1 hS) _ _ i.isLt, coe_sum]
    refine Finset.sum_congr rfl fun j hj => ?_
    have hj := Finset.mem_range.1 hj
    rw [hl j hj, hl i.val i.isLt, hv j hj, coe_ite]
  rw [bT_apply, hR, hP i l, hP 639 l, hV i l, hS i, ← EReal.coe_add, ← EReal.coe_sub, below_join seg (v l) b i.val i.isLt]
  rcases hcar with ⟨rfl, h⟩ | ⟨h0, rfl, h⟩
  · rw [if_neg (h _ (by omega)), add_zero]
  · by_cases e : seg (b + i.val) = seg (b + 640)
    · have e' : seg (b + 639) = seg (b + 640) := hc (b + i.val) (b + 639) (b + 640) (by omega) (by omega) (by omega) e
      rw [if_pos e, h l, ← EReal.coe_sub, ← EReal.coe_add]
      refine congrArg _ ?_
      show _ + (_ - below seg (v l) (b + 640) (seg (b + 639))) = _
      rw [e, e']
      ring
    · rw [if_neg e, add_zero, below_all hc (v l) (b + 640) (b + i.val) (by omega) hb (fun _ => e)]

end Cert.Val

end
-- ==== Proof.Val.BwdRow.lean ====
/- The backward kernel's results and carried row, read at a row: functions of the row's features and of its segment's totals. -/
module

public import proofs.«01_k».proof.Proof.Val.BwdPay

@[expose] public section

set_option maxRecDepth 16384

noncomputable section

namespace Cert.Val

open Cert.KernelIdeal Cert.KernelIdeal.Gen Cert.KernelIdeal.Hand
open Idealize.ShloMosaic Idealize.ShloMosaic.TcCoe

/-- The smallest share of a segment's weight that is divided by, as printed: 0.001. -/
abbrev kap : EReal := Ideal.ofBits FTy.f32 0x3A83126F#32

/-- What a row's segment totals divide by. -/
def rowD (T : Fin 384 → EReal) : EReal := max (T 257) (kap * T 256)

/-- The segment's weighted mean of feature `q`. -/
def rowMean (T : Fin 384 → EReal) (q : Fin 128) : EReal := Ideal.div (T ⟨q.val, by omega⟩) (rowD T)

/-- The segment's weighted deviation of feature `q`. -/
def rowStd (T : Fin 384 → EReal) (q : Fin 128) : EReal :=
  Ideal.sqrt (Ideal.div (T ⟨128 + q.val, by omega⟩) (rowD T)
    - (Ideal.ofBits FTy.f32 0x40000000#32 - Ideal.div (T 257) (rowD T)) * (rowMean T q * rowMean T q) + kap)

/-- The row's feature `q`, normalised over its segment. -/
def rowNorm (h : Fin 128 → EReal) (T : Fin 384 → EReal) (q : Fin 128) : EReal := Ideal.div (h q - rowMean T q) (rowStd T q)

/-- A quarter of the sum of what `mg` selects: a channel group's mean. -/
def rowGs (mg : Fin 128 → Fin 128 → EReal) (o : Fin 128 → EReal) (q : Fin 128) : EReal :=
  (∑ x, o x * mg x q) * Ideal.ofBits FTy.f32 0x3E800000#32

/-- The row's result at feature `q`. -/
def rowOut (mg : Fin 128 → Fin 128 → EReal) (gg gb : Fin 128 → EReal) (o : Fin 128 → EReal) (q : Fin 128) : EReal :=
  max ((o q - rowGs mg o q) * Ideal.rsqrt (rowGs mg (fun x => o x * o x) q - rowGs mg o q * rowGs mg o q + Ideal.ofBits FTy.f32 0x3727C5AC#32)
    * gg q + gb q) 0

/-- The last part of the body, read at a row and a column. -/
theorem pay24_apply (h : FVec Ideal S640x128 .f32) (T : FVec Ideal S640x384 .f32) (x5 : FVec Ideal S128x128 .f32) (x6 x7 : FVec Ideal S1x128 .f32)
    (i : Fin 640) (q : Fin 128) (sh sh2 : FVec Ideal S640x128 .f32) (E U : FVec Ideal S640x1 .f32)
    (hsh : ∀ k : Fin 128, sh (ix2 i k) = T (ix2 i ⟨k.val, by omega⟩)) (hsh2 : ∀ k : Fin 128, sh2 (ix2 i k) = T (ix2 i ⟨128 + k.val, by omega⟩))
    (hE : E (ix2 i 0) = T (ix2 i 256)) (hU : U (ix2 i 0) = T (ix2 i 257)) :
    k1_pay24 h sh sh2 E U zm x5 x6 x7 (ix2 i q)
      = rowOut (fun a b => x5 (ix2 a b)) (fun a => x6 (ix2 0 a)) (fun a => x7 (ix2 0 a))
          (rowNorm (fun a => h (ix2 i a)) fun l => T (ix2 i l)) q := by
  pointwise [k1_pay24, k1_pay22]
  simp only [hsh, hsh2, hE, hU]
  rfl

/-- The weights' part of the body, read at a row. -/
theorem pay23_apply (u : FVec Ideal S640x1 .f32) (T : FVec Ideal S640x384 .f32) (i : Fin 640) (E U : FVec Ideal S640x1 .f32)
    (hE : E (ix2 i 0) = T (ix2 i 256)) (hU : U (ix2 i 0) = T (ix2 i 257)) :
    k1_pay23 u E U zm (ix2 i 0) = Ideal.div (u (ix2 i 0)) (rowD fun l => T (ix2 i l)) := by
  pointwise [k1_pay23, k1_pay22]
  simp only [hE, hU]
  rfl

section
variable (x0 : Vec Ideal S640x384 .f32) (x1 : Vec Ideal S640x1 .i32) (x2 : Vec Ideal S640x128 .f32) (x3 x4 : Vec Ideal S640x1 .f32)
    (s0 : BitVec 32) (s1 : Vec Ideal S1x384 .f32)

/-- The carried row is the first row of the segment totals. -/
theorem bRow_apply (l : Fin 384) : bRow x0 x1 x2 x3 x4 s0 s1 (ix2 0 l) = bT x0 x1 x2 x3 x4 s0 s1 (ix2 0 l) := by
  unfold bRow bT
  pointwise [k1_pay17]

/-- The totals of `u·h`, read at a row and a column. -/
theorem bSh_apply (i : Fin 640) (k : Fin 128) : bSh x0 x1 x2 x3 x4 s0 s1 (ix2 i k) = bT x0 x1 x2 x3 x4 s0 s1 (ix2 i ⟨k.val, by omega⟩) := by
  unfold bSh bT
  pointwise [k1_pay18]

/-- The totals of `u·h·h`, read at a row and a column. -/
theorem bSh2_apply (i : Fin 640) (k : Fin 128) : bSh2 x0 x1 x2 x3 x4 s0 s1 (ix2 i k) = bT x0 x1 x2 x3 x4 s0 s1 (ix2 i ⟨128 + k.val, by omega⟩) := by
  unfold bSh2 bT
  pointwise [k1_pay19]

/-- The totals of `e`, read at a row. -/
theorem bE_apply (i : Fin 640) : bE x0 x1 x2 x3 x4 s0 s1 (ix2 i 0) = bT x0 x1 x2 x3 x4 s0 s1 (ix2 i 256) := by
  unfold bE bT
  pointwise [k1_pay20]

/-- The totals of `u`, read at a row. -/
theorem bU_apply (i : Fin 640) : bU x0 x1 x2 x3 x4 s0 s1 (ix2 i 0) = bT x0 x1 x2 x3 x4 s0 s1 (ix2 i 257) := by
  unfold bU bT
  pointwise [k1_pay21]

/-- The block of weights, read at a row. -/
theorem bRa_apply (i : Fin 640) : bRa x0 x1 x2 x3 x4 s0 s1 (ix2 i 0)
    = Ideal.div ((x3 (ix2 i 0) : EReal) * x4 (ix2 i 0)) (rowD fun l => bT x0 x1 x2 x3 x4 s0 s1 (ix2 i l)) := by
  refine (pay23_apply _ (bT x0 x1 x2 x3 x4 s0 s1) i _ _ (bE_apply ..) (bU_apply ..)).trans (congrArg (Ideal.div · _) ?_)
  pointwise [k1_pay6, k1_pay5]

/-- The block of results, read at a row and a column. -/
theorem bOut_apply (x5 : Vec Ideal S128x128 .f32) (x6 x7 : Vec Ideal S1x128 .f32) (i : Fin 640) (q : Fin 128) :
    bOut x0 x1 x2 x3 x4 x5 x6 x7 s0 s1 (ix2 i q)
      = rowOut (fun a b => x5 (ix2 a b)) (fun a => x6 (ix2 0 a)) (fun a => x7 (ix2 0 a))
          (rowNorm (fun a => x2 (ix2 i a)) fun l => bT x0 x1 x2 x3 x4 s0 s1 (ix2 i l)) q := by
  have h4 : k1_pay4 (F := Ideal) x2 = x2 := shapeCast_self _ _
  unfold bOut
  rw [h4]
  exact pay24_apply _ (bT x0 x1 x2 x3 x4 s0 s1) _ _ _ i q _ _ _ _ (bSh_apply _ _ _ _ _ _ _ i) (bSh2_apply _ _ _ _ _ _ _ i) (bE_apply ..) (bU_apply ..)

end

/-- The features a forward block forms, read at a row and a column. -/
theorem pay3_apply (x0 : Vec Ideal S640x128 .f32) (x3 : Vec Ideal S128x128 .f32) (x4 : Vec Ideal S1x128 .f32) (i : Fin 640) (q : Fin 128) :
    k0_pay3 (F := Ideal) x0 x3 x4 (ix2 i q) = ((∑ k, (x0 (ix2 i k) : EReal) * x3 (ix2 k q)) + x4 (ix2 0 q) : EReal) := by
  pointwise [k0_pay3]

/-- The exponentials a forward block forms, read at a row. -/
theorem pay4_apply (x0 : Vec Ideal S640x128 .f32) (x3 : Vec Ideal S128x128 .f32) (x4 : Vec Ideal S1x128 .f32)
    (x5 : Vec Ideal S128x1 .f32) (x6 : Vec Ideal S1x1 .f32) (i : Fin 640) :
    k0_pay4 (F := Ideal) x0 x3 x4 x5 x6 (ix2 i 0) = Ideal.exp ((∑ k, (k0_pay3 (F := Ideal) x0 x3 x4 (ix2 i k) : EReal) * x5 (ix2 k 0)) + x6 (ix2 0 0) : EReal) := by
  pointwise [k0_pay4]

end Cert.Val

end
-- ==== Proof.Val.Region.lean ====
/- The two regions' results row by row, over any contents they are entered with that hold real rows with contiguous labels. -/
module

public import proofs.«01_k».proof.Proof.Val.Arr
public import proofs.«01_k».proof.Proof.Val.Blocks
public import proofs.«01_k».proof.Proof.Val.BwdRow

@[expose] public section

set_option maxRecDepth 16384

noncomputable section

namespace Cert.Val

open Cert.KernelIdeal Cert.KernelIdeal.Gen Cert.KernelIdeal.Hand
open Idealize.ShloMosaic Idealize.ShloMosaic.TcCoe

/-- The extended reals' product, of what buffers hold. -/
abbrev mulE (x y : EReal) : EReal := x * y

/-- The extended reals' sum, of what buffers hold. -/
abbrev addE (x y : EReal) : EReal := x + y

/-- A row's payload over the reals. -/
def payR (h : Fin 128 → ℝ) (e u : ℝ) (l : Fin 384) : ℝ :=
  if h1 : l.val < 128 then u * h ⟨l.val, h1⟩
  else if h2 : l.val < 256 then u * h ⟨l.val - 128, by omega⟩ * h ⟨l.val - 128, by omega⟩
  else (if l.val = 256 then e else 0) + (if l.val = 257 then u else 0)

/-- The payload of a real row is real. -/
theorem payF_coe (h : Fin 128 → ℝ) (e u : ℝ) (l : Fin 384) : payF (fun q => (h q : EReal)) e u l = ((payR h e u l : ℝ) : EReal) := by
  unfold payF payR
  split
  · rw [EReal.coe_mul]
  · split
    · rw [EReal.coe_mul, EReal.coe_mul]
    · rw [EReal.coe_add, coe_ite, coe_ite]

/-- The carried row is the last row of the running totals. -/
theorem pay1_apply (X : FVec Ideal S640x384 .f32) (l : Fin 384) : k0_pay1 X (ix2 0 l) = X (ix2 639 l) := by
  pointwise [k0_pay1]

section
variable (hR : ℕ → Fin 128 → ℝ) (eR wR : ℕ → ℝ) (seg : ℕ → BitVec 32)

/-- Row `r`'s payload at column `l`. -/
def vR (l : Fin 384) (r : ℕ) : ℝ := payR (hR r) (eR r) (eR r * wR r) l

variable (W : Dev nD → Valuation τ sig (Elt Ideal)) (c : Dev nD) (hc : Contig seg 320000)

section
variable (Hh : ∀ (r : Fin 320000) (q : Fin 128), addE (∑ k : Fin 128, mulE (W c (Proc.devRef .tc main_arg0) (ix2 r k)) (W c (Proc.devRef .tc main_v2) (ix2 k q)))
      (W c (Proc.devRef .tc main_v3) (ix2 0 q)) = (hR r.val q : EReal))
  (He : ∀ r : Fin 320000, Ideal.exp (addE (∑ k : Fin 128, mulE (hR r.val k : EReal) (W c (Proc.devRef .tc main_v4) (ix2 k 0))) (W c (Proc.devRef .tc main_v5) (ix2 0 0)))
      = (eR r.val : EReal))
  (Hw : ∀ r : Fin 320000, W c (Proc.devRef .tc main_v1) (ix2 r 0) = (wR r.val : EReal))
  (Hs : ∀ r : Fin 320000, W c (Proc.devRef .tc main_v0) (ix2 r 0) = seg r.val)
  (hm1 : ∀ r < 320000, seg r ≠ 4294967295#32)

include Hh in
/-- A forward block's features are the rows'. -/
theorem fwd_h (t : Fin cfg0.N) (i : Fin 640) (q : Fin 128) :
    k0_pay3 (F := Ideal) (iblk0 W c 0 t) (iblk0 W c 3 t) (iblk0 W c 4 t) (ix2 i q) = (hR (640 * t.val + i.val) q : EReal) := by
  rw [pay3_apply]
  simp only [iblk0_0, iblk0_3, iblk0_4]
  exact Hh _ q

include Hh He in
/-- A forward block's exponentials are the rows'. -/
theorem fwd_e (t : Fin cfg0.N) (i : Fin 640) (k : Fin 1) :
    k0_pay4 (F := Ideal) (iblk0 W c 0 t) (iblk0 W c 3 t) (iblk0 W c 4 t) (iblk0 W c 5 t) (iblk0 W c 6 t) (ix2 i k) = (eR (640 * t.val + i.val) : EReal) := by
  obtain rfl : k = 0 := Subsingleton.elim _ _
  rw [pay4_apply]
  simp only [fwd_h hR W c Hh, iblk0_5, iblk0_6]
  exact He (row t.val i (lt0 t))

include Hh He Hw in
/-- A forward block's payload is the rows'. -/
theorem fwd_V (t : Fin cfg0.N) (i : Fin 640) (l : Fin 384) :
    fV (iblk0 W c 0 t) (iblk0 W c 2 t) (iblk0 W c 3 t) (iblk0 W c 4 t) (iblk0 W c 5 t) (iblk0 W c 6 t) (ix2 i l) = (vR hR eR wR l (640 * t.val + i.val) : EReal) := by
  rw [fV_apply, fwd_e hR eR W c Hh He, iblk0_2, Hw]
  simp only [fwd_h hR W c Hh]
  rw [← EReal.coe_mul]
  exact payF_coe _ _ _ l

include hc Hh He Hw Hs hm1 in
/-- The forward region's running totals, block by block. -/
theorem fwd_P : ∀ (n : ℕ) (hn : n < cfg0.N) (i : Fin 640) (l : Fin 384),
    fP (iblk0 W c 0 ⟨n, hn⟩) (iblk0 W c 1 ⟨n, hn⟩) (iblk0 W c 2 ⟨n, hn⟩) (iblk0 W c 3 ⟨n, hn⟩) (iblk0 W c 4 ⟨n, hn⟩) (iblk0 W c 5 ⟨n, hn⟩) (iblk0 W c 6 ⟨n, hn⟩)
      (carry0 W c n).1 (carry0 W c n).2 (ix2 i l)
      = below seg (fun r => (vR hR eR wR l r : EReal)) (640 * n + i.val + 1) (seg (640 * n + i.val)) := by
  intro n
  induction n with
  | zero =>
    intro hn i l
    refine fP_below hc (fun l r => (vR hR eR wR l r : EReal)) (640 * 0) (by omega) _ _ _ _ _ _ _ _ _ (fun i => (iblk0_1 W c _ i 0).trans (Hs _))
      (fwd_V hR eR wR W c Hh He Hw _) (.inl ⟨rfl, hm1⟩) i l
  | succ n ih =>
    intro hn i l
    have hn' : n < cfg0.N := Nat.lt_of_succ_lt hn
    have h500 := lt0 ⟨n + 1, hn⟩
    have h500 : n + 1 < 500 := h500
    refine fP_below hc (fun l r => (vR hR eR wR l r : EReal)) (640 * (n + 1)) (by omega) _ _ _ _ _ _ _ _ _ (fun i => (iblk0_1 W c _ i 0).trans (Hs _))
      (fwd_V hR eR wR W c Hh He Hw _) (.inr ⟨by omega, ?_, fun l => ?_⟩) i l
    · have h1 : lastIx (iblk0 W c 1 ⟨n, hn'⟩) = seg (640 * n + 639) := (iblk0_1 W c ⟨n, hn'⟩ 639 0).trans (Hs _)
      rw [carry0_succ W c ⟨n, hn'⟩]
      exact h1.trans (congrArg seg (by omega))
    · rw [carry0_succ W c ⟨n, hn'⟩]
      have e : 640 * (n + 1) - 1 = 640 * n + 639 := by omega
      have e' : 640 * (n + 1) = 640 * n + 639 + 1 := by omega
      rw [e, e']
      exact (pay1_apply _ l).trans (ih hn' 639 l)

include Hh in
/-- The features the forward region leaves. -/
theorem fwd_arr_h : Pipeline.afterRegion (dat0 W c) (W c) (Proc.devRef .tc main_v16_0) = fun y : S320000x128.Idx => ((hR (y 0).val (y 1) : ℝ) : EReal) :=
  arr0_7 W c _ fun t i k => fwd_h hR W c Hh t i k

include Hh He in
/-- The exponentials the forward region leaves. -/
theorem fwd_arr_e : Pipeline.afterRegion (dat0 W c) (W c) (Proc.devRef .tc main_v16_1) = fun y : S320000x1.Idx => ((eR (y 0).val : ℝ) : EReal) :=
  arr0_8 W c _ fun t i k => fwd_e hR eR W c Hh He t i k

include hc Hh He Hw Hs hm1 in
/-- The running totals the forward region leaves. -/
theorem fwd_arr_P : Pipeline.afterRegion (dat0 W c) (W c) (Proc.devRef .tc main_v16_2)
    = fun y : S320000x384.Idx => ((below seg (vR hR eR wR (y 1)) ((y 0).val + 1) (seg (y 0).val) : ℝ) : EReal) :=
  arr0_9 W c _ fun t i k => (fwd_P hR eR wR seg W c hc Hh He Hw Hs hm1 t.val t.isLt i k).trans (coe_below seg (vR hR eR wR k) _ _)

end

section
variable (Hh : ∀ (r : Fin 320000) (q : Fin 128), W c (Proc.devRef .tc main_v16_0) (ix2 r q) = (hR r.val q : EReal))
  (He : ∀ r : Fin 320000, W c (Proc.devRef .tc main_v16_1) (ix2 r 0) = (eR r.val : EReal))
  (HP : ∀ (r : Fin 320000) (l : Fin 384), W c (Proc.devRef .tc main_v16_2) (ix2 r l) = ((below seg (vR hR eR wR l) (r.val + 1) (seg r.val) : ℝ) : EReal))
  (Hw : ∀ r : Fin 320000, W c (Proc.devRef .tc main_v1) (ix2 r 0) = (wR r.val : EReal))
  (Hs : ∀ r : Fin 320000, W c (Proc.devRef .tc main_v0) (ix2 r 0) = seg r.val)
  (hm2 : ∀ r < 320000, seg r ≠ 4294967294#32)

include Hh He Hw in
/-- A backward block's payload is the rows'. -/
theorem bwd_V (t : Fin cfg1.N) (i : Fin 640) (l : Fin 384) :
    k1_pay7 (F := Ideal) (iblk1 W c 2 t) (iblk1 W c 3 t) (iblk1 W c 4 t) (ix2 i l) = (vR hR eR wR l (640 * (499 - t.val) + i.val) : EReal) := by
  rw [bV_apply]
  simp only [iblk1_2, iblk1_3, iblk1_4, Hw, He, Hh]
  rw [← EReal.coe_mul]
  exact payF_coe _ _ _ l

include hc Hh He HP Hw Hs in
/-- A backward block's segment totals, from what is carried into it. -/
theorem bwd_step (t : Fin cfg1.N) (s0 : BitVec 32) (s1 : Vec Ideal S1x384 .f32)
    (hcar : (640 * (499 - t.val) + 640 = 320000 ∧ ∀ r < 320000, seg r ≠ s0) ∨ (640 * (499 - t.val) + 640 < 320000 ∧ s0 = seg (640 * (499 - t.val) + 640)
      ∧ ∀ l, s1 (ix2 0 l) = ((below seg (vR hR eR wR l) 320000 (seg (640 * (499 - t.val) + 640)) : ℝ) : EReal))) (i : Fin 640) (l : Fin 384) :
    bT (iblk1 W c 0 t) (iblk1 W c 1 t) (iblk1 W c 2 t) (iblk1 W c 3 t) (iblk1 W c 4 t) s0 s1 (ix2 i l)
      = ((below seg (vR hR eR wR l) 320000 (seg (640 * (499 - t.val) + i.val)) : ℝ) : EReal) := by
  have h1 : ∀ i : Fin 640, iblk1 W c 1 t (ix2 i 0) = seg (640 * (499 - t.val) + i.val) := fun i => (iblk1_1 W c t i 0).trans (Hs (row (499 - t.val) i (lt1 t)))
  have h0 : ∀ (i : Fin 640) (l : Fin 384), iblk1 W c 0 t (ix2 i l)
      = ((below seg (vR hR eR wR l) (640 * (499 - t.val) + i.val + 1) (seg (640 * (499 - t.val) + i.val)) : ℝ) : EReal) :=
    fun i l => (iblk1_0 W c t i l).trans (HP (row (499 - t.val) i (lt1 t)) l)
  have hb : 640 * (499 - t.val) + 640 ≤ 320000 := by omega
  have hV := bwd_V hR eR wR W c Hh He Hw t
  generalize 640 * (499 - t.val) = b at *
  exact bT_below hc (vR hR eR wR) b hb _ _ _ _ _ s0 s1 h1 hV h0 hcar i l

include hc Hh He HP Hw Hs hm2 in
/-- The backward region's segment totals, block by block. -/
theorem bwd_T : ∀ (n : ℕ) (hn : n < cfg1.N) (i : Fin 640) (l : Fin 384),
    bT (iblk1 W c 0 ⟨n, hn⟩) (iblk1 W c 1 ⟨n, hn⟩) (iblk1 W c 2 ⟨n, hn⟩) (iblk1 W c 3 ⟨n, hn⟩) (iblk1 W c 4 ⟨n, hn⟩)
      (carry1 W c n).1 (carry1 W c n).2 (ix2 i l)
      = ((below seg (vR hR eR wR l) 320000 (seg (640 * (499 - n) + i.val)) : ℝ) : EReal) := by
  intro n
  induction n with
  | zero =>
    intro hn i l
    exact bwd_step hR eR wR seg W c hc Hh He HP Hw Hs ⟨0, hn⟩ _ _ (.inl ⟨rfl, hm2⟩) i l
  | succ n ih =>
    intro hn i l
    have hn' : n < cfg1.N := Nat.lt_of_succ_lt hn
    have h500 : n + 1 < 500 := Nat.lt_of_lt_of_eq hn N_1
    have e : 640 * (499 - (n + 1)) + 640 = 640 * (499 - n) := by omega
    have h1 : firstIx (iblk1 W c 1 ⟨n, hn'⟩) = seg (640 * (499 - n)) := (iblk1_1 W c ⟨n, hn'⟩ 0 0).trans (Hs (row (499 - n) 0 (by omega)))
    refine bwd_step hR eR wR seg W c hc Hh He HP Hw Hs ⟨n + 1, hn⟩ _ _ (.inr ⟨?_, ?_, fun l => ?_⟩) i l
    · show 640 * (499 - (n + 1)) + 640 < 320000
      omega
    · rw [carry1_succ W c ⟨n, hn'⟩]
      exact h1.trans (congrArg seg e.symm)
    · rw [carry1_succ W c ⟨n, hn'⟩]
      refine (bRow_apply _ _ _ _ _ _ _ l).trans ((ih hn' 0 l).trans ?_)
      show _ = ((below seg (vR hR eR wR l) 320000 (seg (640 * (499 - (n + 1)) + 640)) : ℝ) : EReal)
      rw [e]
      rfl

/-- What row `r`'s segment sums to, column by column. -/
def tot (r : ℕ) (l : Fin 384) : EReal := ((below seg (vR hR eR wR l) 320000 (seg r) : ℝ) : EReal)

include hc Hh He HP Hw Hs hm2 in
/-- The normalised features the backward region leaves. -/
theorem bwd_arr_out (mg : Fin 128 → Fin 128 → EReal) (gg gb : Fin 128 → EReal)
    (Hmg : ∀ a b, W c (Proc.devRef .tc main_v15) (ix2 a b) = mg a b) (Hgg : ∀ a, W c (Proc.devRef .tc main_v6) (ix2 0 a) = gg a)
    (Hgb : ∀ a, W c (Proc.devRef .tc main_v7) (ix2 0 a) = gb a) :
    Pipeline.afterRegion (dat1 W c) (W c) (Proc.devRef .tc main_v17_0)
      = fun y : S320000x128.Idx => rowOut mg gg gb (rowNorm (fun q => (hR (y 0).val q : EReal)) (tot hR eR wR seg (y 0).val)) (y 1) := by
  refine arr1_8 W c _ fun t i k => ?_
  rw [bOut_apply]
  simp only [iblk1_2, iblk1_5, iblk1_6, iblk1_7, Hmg, Hgg, Hgb, Hh, bwd_T hR eR wR seg W c hc Hh He HP Hw Hs hm2 t.val t.isLt]
  rfl

include hc Hh He HP Hw Hs hm2 in
/-- The weights the backward region leaves. -/
theorem bwd_arr_ra :
    Pipeline.afterRegion (dat1 W c) (W c) (Proc.devRef .tc main_v17_1)
      = fun y : S320000x1.Idx => Ideal.div ((eR (y 0).val * wR (y 0).val : ℝ) : EReal) (rowD (tot hR eR wR seg (y 0).val)) := by
  refine arr1_9 W c _ fun t i k => ?_
  obtain rfl : k = 0 := Subsingleton.elim _ _
  rw [bRa_apply]
  simp only [iblk1_3, iblk1_4, He, Hw, bwd_T hR eR wR seg W c hc Hh He HP Hw Hs hm2 t.val t.isLt, ← EReal.coe_mul]
  rfl

end

end

end Cert.Val

end
-- ==== Proof.Val.Math.lean ====
/- The mathematics over the reals: the weights and the normalised features both programs compute, and the kernel's row functions at them. -/
module

public import proofs.«01_k».proof.Proof.Val.Region

@[expose] public section

set_option maxRecDepth 16384

noncomputable section

namespace Cert.Val

open Idealize.ShloMosaic

/-- The printed 0.001, a real. -/
def kapR : ℝ := 8589935 / 2 ^ 33
/-- The printed 1e-5, a real. -/
def epsR : ℝ := 10995116 / 2 ^ 40

theorem kapR_pos : 0 < kapR := by unfold kapR; norm_num
theorem epsR_pos : 0 < epsR := by unfold epsR; norm_num

theorem kap_eq : Ideal.ofBits FTy.f32 0x3A83126F#32 = (kapR : EReal) := by
  unfold kapR
  simp [Ideal.ofBits, Ideal.ieee, -EReal.coe_mul]; norm_num
theorem eps_eq : Ideal.ofBits FTy.f32 0x3727C5AC#32 = (epsR : EReal) := by
  unfold epsR
  simp [Ideal.ofBits, Ideal.ieee, -EReal.coe_mul]; norm_num
theorem two_eq : Ideal.ofBits FTy.f32 0x40000000#32 = ((2 : ℝ) : EReal) := by
  simp [Ideal.ofBits, Ideal.ieee, -EReal.coe_mul]; norm_num
theorem four_eq : Ideal.ofBits FTy.f32 0x40800000#32 = ((4 : ℝ) : EReal) := by
  simp [Ideal.ofBits, Ideal.ieee, -EReal.coe_mul]; norm_num
theorem quarter_eq : Ideal.ofBits FTy.f32 0x3E800000#32 = ((1 / 4 : ℝ) : EReal) := by
  simp [Ideal.ofBits, Ideal.ieee, -EReal.coe_mul]; norm_num

/-- A quotient of reals by a nonzero real. -/
theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The square root of a nonnegative real. -/
theorem sqrt_real (x : ℝ) (hx : 0 ≤ x) : Ideal.sqrt (x : EReal) = ((Real.sqrt x : ℝ) : EReal) := by
  rw [Ideal.sqrt_coe, if_neg (not_lt.2 hx)]

/-- The reciprocal square root of a positive real. -/
theorem rsqrt_real (x : ℝ) (hx : 0 < x) : Ideal.rsqrt (x : EReal) = (((Real.sqrt x)⁻¹ : ℝ) : EReal) := by
  rw [Ideal.rsqrt_coe, if_neg (not_lt.2 hx.le), if_neg hx.ne']

/-- The larger of two reals, as an extended real. -/
theorem max_real (x y : ℝ) : max (x : EReal) (y : EReal) = ((max x y : ℝ) : EReal) :=
  (Monotone.map_max (fun a b h => EReal.coe_le_coe_iff.2 h : Monotone (fun x : ℝ => (x : EReal)))).symm

section
variable (hR : ℕ → Fin 128 → ℝ) (eR wR : ℕ → ℝ) (seg : ℕ → BitVec 32)

/-- The sum of `v` over row `r`'s segment. -/
def segS (v : ℕ → ℝ) (r : ℕ) : ℝ := below seg v 320000 (seg r)

theorem segS_congr {v v' : ℕ → ℝ} (r : ℕ) (h : ∀ j, seg j = seg r → v j = v' j) : segS seg v r = segS seg v' r := by
  unfold segS below
  refine Finset.sum_congr rfl fun j _ => ?_
  split
  · next e => exact h j e
  · rfl

theorem segS_same (v : ℕ → ℝ) {j r : ℕ} (h : seg j = seg r) : segS seg v j = segS seg v r := by unfold segS; rw [h]

theorem segS_mul (c : ℝ) (v : ℕ → ℝ) (r : ℕ) : segS seg (fun j => c * v j) r = c * segS seg v r := by
  unfold segS below
  rw [Finset.mul_sum]
  refine Finset.sum_congr rfl fun j _ => ?_
  split <;> simp

theorem segS_add (v v' : ℕ → ℝ) (r : ℕ) : segS seg (fun j => v j + v' j) r = segS seg v r + segS seg v' r := by
  unfold segS below
  rw [← Finset.sum_add_distrib]
  refine Finset.sum_congr rfl fun j _ => ?_
  split <;> simp

theorem below_nonneg (v : ℕ → ℝ) (n : ℕ) (s : BitVec 32) (h : ∀ j < n, 0 ≤ v j) : 0 ≤ below seg v n s := by
  unfold below
  refine Finset.sum_nonneg fun j hj => ?_
  split
  · exact h j (Finset.mem_range.1 hj)
  · exact le_refl _

theorem below_pos (v : ℕ → ℝ) (n r : ℕ) (hr : r < n) (h : ∀ j < n, 0 < v j) : 0 < below seg v n (seg r) := by
  unfold below
  refine Finset.sum_pos' (fun j hj => ?_) ⟨r, Finset.mem_range.2 hr, ?_⟩
  · split
    · exact (h j (Finset.mem_range.1 hj)).le
    · exact le_refl _
  · rw [if_pos rfl]
    exact h r hr

theorem segS_nonneg (v : ℕ → ℝ) (r : ℕ) (h : ∀ j < 320000, 0 ≤ v j) : 0 ≤ segS seg v r := below_nonneg seg v _ _ h

theorem segS_pos (v : ℕ → ℝ) (r : ℕ) (hr : r < 320000) (h : ∀ j < 320000, 0 < v j) : 0 < segS seg v r := below_pos seg v _ r hr h

/-- The segment's total exponential. -/
def totE (r : ℕ) : ℝ := segS seg eR r
/-- The segment's total weighted exponential. -/
def totU (r : ℕ) : ℝ := segS seg (fun j => eR j * wR j) r
/-- What the segment's weights divide by. -/
def denD (r : ℕ) : ℝ := max (totU eR wR seg r) (kapR * totE eR seg r)
/-- Row `r`'s weight in its segment: the second result. -/
def wtA (r : ℕ) : ℝ := eR r * wR r / denD eR wR seg r
/-- The segment's weighted mean of feature `q`. -/
def meanM (r : ℕ) (q : Fin 128) : ℝ := segS seg (fun j => hR j q * wtA eR wR seg j) r
/-- The segment's weighted variance of feature `q`. -/
def varV (r : ℕ) (q : Fin 128) : ℝ :=
  segS seg (fun j => wtA eR wR seg j * ((hR j q - meanM hR eR wR seg j q) * (hR j q - meanM hR eR wR seg j q))) r
/-- Row `r`'s feature `q`, normalised over its segment. -/
def normO (r : ℕ) (q : Fin 128) : ℝ := (hR r q - meanM hR eR wR seg r q) / Real.sqrt (varV hR eR wR seg r q + kapR)

variable (he : ∀ r < 320000, 0 < eR r) (hw : ∀ r < 320000, 0 ≤ wR r)

include he in
theorem totE_pos (r : ℕ) (hr : r < 320000) : 0 < totE eR seg r := segS_pos seg eR r hr he

include he in
theorem denD_pos (r : ℕ) (hr : r < 320000) : 0 < denD eR wR seg r :=
  lt_max_of_lt_right (mul_pos kapR_pos (totE_pos eR seg he r hr))

theorem denD_same {j r : ℕ} (h : seg j = seg r) : denD eR wR seg j = denD eR wR seg r := by
  unfold denD totU totE
  rw [segS_same seg _ h, segS_same seg _ h]

theorem meanM_same {j r : ℕ} (h : seg j = seg r) (q : Fin 128) : meanM hR eR wR seg j q = meanM hR eR wR seg r q := segS_same seg _ h

include he hw in
theorem wtA_nonneg (r : ℕ) (hr : r < 320000) : 0 ≤ wtA eR wR seg r :=
  div_nonneg (mul_nonneg (he r hr).le (hw r hr)) (denD_pos eR wR seg he r hr).le

include he hw in
theorem varV_nonneg (r : ℕ) (q : Fin 128) : 0 ≤ varV hR eR wR seg r q :=
  segS_nonneg seg _ r fun j hj => mul_nonneg (wtA_nonneg eR wR seg he hw j hj) (mul_self_nonneg _)

/-- The mean is the total of `u·h` over the segment's divisor. -/
theorem meanM_eq (r : ℕ) (q : Fin 128) : meanM hR eR wR seg r q = segS seg (fun j => eR j * wR j * hR j q) r / denD eR wR seg r := by
  unfold meanM
  rw [div_eq_inv_mul, ← segS_mul]
  refine segS_congr seg r fun j e => ?_
  unfold wtA
  rw [denD_same eR wR seg e]
  ring

/-- The variance from the totals of `u·h·h`, `u·h` and `u`. -/
theorem varV_eq (r : ℕ) (q : Fin 128) : varV hR eR wR seg r q
    = segS seg (fun j => eR j * wR j * hR j q * hR j q) r / denD eR wR seg r
      - (2 - totU eR wR seg r / denD eR wR seg r) * (meanM hR eR wR seg r q * meanM hR eR wR seg r q) := by
  have h : varV hR eR wR seg r q = segS seg (fun j => ((denD eR wR seg r)⁻¹ * (eR j * wR j * hR j q * hR j q)
      + (-2 * meanM hR eR wR seg r q * (denD eR wR seg r)⁻¹) * (eR j * wR j * hR j q))
      + (meanM hR eR wR seg r q * meanM hR eR wR seg r q * (denD eR wR seg r)⁻¹) * (eR j * wR j)) r := by
    refine segS_congr seg r fun j e => ?_
    unfold wtA
    rw [denD_same eR wR seg e, meanM_same hR eR wR seg e q]
    ring
  rw [h, segS_add, segS_add, segS_mul, segS_mul, segS_mul]
  have hm := meanM_eq hR eR wR seg r q
  rw [div_eq_inv_mul] at hm
  unfold totU
  rw [div_eq_inv_mul, div_eq_inv_mul]
  generalize segS seg (fun j => eR j * wR j * hR j q) r = Sh at *
  have h2 : -2 * meanM hR eR wR seg r q * (denD eR wR seg r)⁻¹ * Sh = -2 * meanM hR eR wR seg r q * meanM hR eR wR seg r q := by
    rw [mul_assoc, ← hm]
  rw [h2]
  ring

/-- A row's totals, column by column: `u·h`, -/
theorem tot_lo (r : ℕ) (q : Fin 128) : tot hR eR wR seg r ⟨q.val, by omega⟩ = (segS seg (fun j => eR j * wR j * hR j q) r : EReal) := by
  unfold tot segS
  refine congrArg _ (congrArg (fun v => below seg v 320000 (seg r)) (funext fun j => ?_))
  unfold vR payR
  rw [dif_pos q.isLt]
/-- `u·h·h`, -/
theorem tot_mid (r : ℕ) (q : Fin 128) : tot hR eR wR seg r ⟨128 + q.val, by omega⟩ = (segS seg (fun j => eR j * wR j * hR j q * hR j q) r : EReal) := by
  unfold tot segS
  refine congrArg _ (congrArg (fun v => below seg v 320000 (seg r)) (funext fun j => ?_))
  unfold vR payR
  have e : ∀ h, (⟨128 + q.val - 128, h⟩ : Fin 128) = q := fun h => Fin.ext (by show 128 + q.val - 128 = q.val; omega)
  rw [dif_neg (by show ¬ 128 + q.val < 128; omega), dif_pos (by show 128 + q.val < 256; omega)]
  simp only [e]
/-- `e`, -/
theorem tot_e (r : ℕ) : tot hR eR wR seg r 256 = (totE eR seg r : EReal) := by
  unfold tot totE segS
  refine congrArg _ (congrArg (fun v => below seg v 320000 (seg r)) (funext fun j => ?_))
  unfold vR payR
  rw [dif_neg (by decide), dif_neg (by decide), if_pos (by decide), if_neg (by decide), add_zero]
/-- and `u`. -/
theorem tot_u (r : ℕ) : tot hR eR wR seg r 257 = (totU eR wR seg r : EReal) := by
  unfold tot totU segS
  refine congrArg _ (congrArg (fun v => below seg v 320000 (seg r)) (funext fun j => ?_))
  unfold vR payR
  rw [dif_neg (by decide), dif_neg (by decide), if_neg (by decide), if_pos (by decide), zero_add]

/-- What the kernel's row divides by. -/
theorem rowD_tot (r : ℕ) : rowD (tot hR eR wR seg r) = (denD eR wR seg r : EReal) := by
  unfold rowD denD kap
  rw [tot_u, tot_e, kap_eq, ← EReal.coe_mul, max_real]

include he in
/-- The kernel's weight of a row. -/
theorem row_wt (r : ℕ) (hr : r < 320000) : Ideal.div ((eR r * wR r : ℝ) : EReal) (rowD (tot hR eR wR seg r)) = (wtA eR wR seg r : EReal) := by
  rw [rowD_tot, div_real _ _ (denD_pos eR wR seg he r hr).ne']
  rfl

include he in
theorem rowMean_tot (r : ℕ) (hr : r < 320000) (q : Fin 128) : rowMean (tot hR eR wR seg r) q = (meanM hR eR wR seg r q : EReal) := by
  unfold rowMean
  rw [tot_lo, rowD_tot, div_real _ _ (denD_pos eR wR seg he r hr).ne', meanM_eq]

include he hw in
theorem rowStd_tot (r : ℕ) (hr : r < 320000) (q : Fin 128) :
    rowStd (tot hR eR wR seg r) q = (Real.sqrt (varV hR eR wR seg r q + kapR) : EReal) := by
  have hv := varV_nonneg hR eR wR seg he hw r q
  have hD := (denD_pos eR wR seg he r hr).ne'
  unfold rowStd kap
  rw [rowMean_tot hR eR wR seg he r hr, tot_mid, tot_u, rowD_tot, div_real _ _ hD, div_real _ _ hD, two_eq, kap_eq,
    ← EReal.coe_sub, ← EReal.coe_mul, ← EReal.coe_mul, ← EReal.coe_sub, ← EReal.coe_add, ← varV_eq]
  exact sqrt_real _ (add_nonneg hv kapR_pos.le)

include he hw in
/-- The kernel's normalised feature of a row. -/
theorem row_norm (r : ℕ) (hr : r < 320000) (q : Fin 128) :
    rowNorm (fun q => (hR r q : EReal)) (tot hR eR wR seg r) q = (normO hR eR wR seg r q : EReal) := by
  have hv := varV_nonneg hR eR wR seg he hw r q
  unfold rowNorm
  rw [rowMean_tot hR eR wR seg he r hr, rowStd_tot hR eR wR seg he hw r hr, ← EReal.coe_sub]
  exact div_real _ _ (Real.sqrt_pos.2 (add_pos_of_nonneg_of_pos hv kapR_pos)).ne'

end

/-- Channel `k` of `q`'s group of four. -/
def grp (q : Fin 128) (k : Fin 4) : Fin 128 := ⟨4 * (q.val / 4) + k.val, by omega⟩

/-- The mean of `q`'s group. -/
def gMean (o : Fin 128 → ℝ) (q : Fin 128) : ℝ := (∑ k : Fin 4, o (grp q k)) / 4

/-- The variance of `q`'s group. -/
def gVar (o : Fin 128 → ℝ) (q : Fin 128) : ℝ := (∑ k : Fin 4, (o (grp q k) - gMean o q) * (o (grp q k) - gMean o q)) / 4

theorem gVar_nonneg (o : Fin 128 → ℝ) (q : Fin 128) : 0 ≤ gVar o q :=
  div_nonneg (Finset.sum_nonneg fun _ _ => mul_self_nonneg _) (by norm_num)

/-- The variance is the mean square less the squared mean. -/
theorem gVar_eq (o : Fin 128 → ℝ) (q : Fin 128) : gVar o q = gMean (fun x => o x * o x) q - gMean o q * gMean o q := by
  unfold gVar gMean
  simp only [Fin.sum_univ_four]
  ring

/-- The channel normalised over its group. -/
def gNorm (o : Fin 128 → ℝ) (q : Fin 128) : ℝ := (o q - gMean o q) / Real.sqrt (gVar o q + epsR)

/-- The groups' indicator sums a group. -/
theorem sum_grp (o : Fin 128 → ℝ) (q : Fin 128) : (∑ x : Fin 128, if x.val / 4 = q.val / 4 then o x else 0) = ∑ k : Fin 4, o (grp q k) := by
  rw [← Finset.sum_filter]
  refine Finset.sum_bij' (fun x _ => (⟨x.val % 4, by omega⟩ : Fin 4)) (fun k _ => grp q k) ?_ ?_ ?_ ?_ ?_
  · intro x _; exact Finset.mem_univ _
  · intro k _
    exact Finset.mem_filter.2 ⟨Finset.mem_univ _, by show (4 * (q.val / 4) + k.val) / 4 = q.val / 4; omega⟩
  · intro x hx
    have := (Finset.mem_filter.1 hx).2
    exact Fin.ext (by show 4 * (q.val / 4) + x.val % 4 = x.val; omega)
  · intro k _
    exact Fin.ext (by show (4 * (q.val / 4) + k.val) % 4 = k.val; omega)
  · intro x hx
    have := (Finset.mem_filter.1 hx).2
    exact congrArg o (Fin.ext (by show x.val = 4 * (q.val / 4) + x.val % 4; omega))

/-- The channel groups' indicator, as the kernel multiplies by it. -/
def mgE (a b : Fin 128) : EReal := if a.val / 4 = b.val / 4 then 1 else 0

/-- A quarter of the indicator's sum is the group's mean. -/
theorem rowGs_real (o : Fin 128 → ℝ) (q : Fin 128) : rowGs mgE (fun x => (o x : EReal)) q = (gMean o q : EReal) := by
  have h : gMean o q = (∑ x : Fin 128, if x.val / 4 = q.val / 4 then o x else 0) * (1 / 4) := by
    unfold gMean
    rw [← sum_grp]
    ring
  unfold rowGs
  rw [h, quarter_eq, EReal.coe_mul, coe_sum]
  refine congrArg (· * _) (Finset.sum_congr rfl fun x _ => ?_)
  unfold mgE
  rw [coe_ite]
  split
  · rw [mul_one]
  · rw [mul_zero]

/-- The kernel's result of a row of normalised features. -/
theorem row_out (gg gb : Fin 128 → EReal) (o : Fin 128 → ℝ) (q : Fin 128) :
    rowOut mgE gg gb (fun x => (o x : EReal)) q = max ((gNorm o q : EReal) * gg q + gb q) 0 := by
  have hv := gVar_nonneg o q
  have h2 : rowGs mgE (fun x => (o x : EReal) * (o x : EReal)) q = (gMean (fun x => o x * o x) q : EReal) := by
    rw [← rowGs_real]
    simp only [EReal.coe_mul]
  unfold rowOut gNorm
  rw [rowGs_real, h2, eps_eq, ← EReal.coe_mul, ← EReal.coe_sub, ← EReal.coe_sub, ← EReal.coe_add, ← gVar_eq,
    rsqrt_real _ (add_pos_of_nonneg_of_pos hv epsR_pos), ← EReal.coe_mul, div_eq_mul_inv]

end Cert.Val

end
-- ==== Proof.Val.PreRead.lean ====
/- What the precondition says of the argument arrays, entry by entry. -/
module

public import proofs.«01_k».proof.Defs
public import proofs.«01_k».proof.Proof.Val.Math
public import Idealize.ShloMosaic.Lib.Pointwise
public import Idealize.ShloMosaic.Lib.Affine
public import Idealize.ShloMosaic.Lib.Decide

@[expose] public section

set_option maxRecDepth 16384

noncomputable section

namespace Cert.Val

open Cert.Pre_sorted_finite
open Idealize.ShloMosaic

/-- The shapes' facts the precondition states. -/
instance preFacts : Cert.Pre_sorted_finite.Facts where
  bcast_S_S320000x128 := by decide
  bcast_S_S320000 := by decide
  bcast_S_S128x128 := by decide
  bcast_S_S128 := by decide
  bcast_S_S1x128 := by decide
  bcast_S_S1 := by decide
  slices_S320000_S319999_1 := by decide
  slices_S320000_S319999_0 := by decide

theorem ofBool_one {b : Bool} (h : BitVec.ofBool b = 1#1) : b = true := by
  cases b
  · exact absurd h (by decide)
  · rfl

theorem andi_one {a b : BitVec 1} (h : IntOp.andi a b = 1#1) : a = 1#1 ∧ b = 1#1 := by
  revert a b
  decide

/-- An entry of magnitude below the printed +∞ is a real. -/
theorem real_of_abs (x : EReal) (h : BitVec.ofBool (decide (max x (-x) < Ideal.ofBits FTy.f32 2139095040#32)) = 1#1) : ∃ y : ℝ, x = (y : EReal) := by
  have h1 := of_decide_eq_true (ofBool_one h)
  have h2 : Ideal.ofBits FTy.f32 2139095040#32 = (⊤ : EReal) := by simp [Ideal.ofBits, Ideal.ieee]
  rw [h2, max_lt_iff] at h1
  refine ⟨_, (EReal.coe_toReal h1.1.ne fun e => ?_).symm⟩
  rw [e] at h1
  exact absurd h1.2 (by simp)

/-- An entry from 0 to below the printed +∞ is a real, at least 0. -/
theorem real_of_nonneg (x : EReal) (h : IntOp.andi (BitVec.ofBool (decide (Ideal.ofBits FTy.f32 0#32 ≤ x)))
    (BitVec.ofBool (decide (x < Ideal.ofBits FTy.f32 2139095040#32))) = 1#1) : ∃ y : ℝ, x = (y : EReal) ∧ 0 ≤ y := by
  have h0 := of_decide_eq_true (ofBool_one (andi_one h).1)
  have h1 := of_decide_eq_true (ofBool_one (andi_one h).2)
  have h2 : Ideal.ofBits FTy.f32 2139095040#32 = (⊤ : EReal) := by simp [Ideal.ofBits, Ideal.ieee]
  have h3 : Ideal.ofBits FTy.f32 0#32 = (0 : EReal) := by simp [Ideal.ofBits, Ideal.ieee]
  rw [h2] at h1
  rw [h3] at h0
  have e : ((x.toReal : ℝ) : EReal) = x := EReal.coe_toReal h1.ne fun e => by
    rw [e] at h0
    exact absurd h0 (by simp)
  refine ⟨_, e.symm, ?_⟩
  rw [← e] at h0
  exact_mod_cast h0

section
variable (a0 : FVec Ideal S320000x128 .f32) (a1 : IVec S320000 32) (a2 : FVec Ideal S320000 .f32) (a3 : FVec Ideal S128x128 .f32)
  (a4 : FVec Ideal S128 .f32) (a5 : FVec Ideal S1x128 .f32) (a6 : FVec Ideal S1 .f32) (a7 a8 : FVec Ideal S128 .f32)

theorem pre0 (h : (fn a0 a1 a2 a3 a4 a5 a6 a7 a8).1 = fun _ => 1#1) (r : Fin 320000) (k : Fin 128) : ∃ x : ℝ, a0 (ix2 r k) = (x : EReal) := by
  refine real_of_abs _ (Eq.trans ?_ (congrFun h (ix2 r k)))
  symm
  pointwise [fn, fn_part1]
  try rfl

theorem pre1 (h : (fn a0 a1 a2 a3 a4 a5 a6 a7 a8).2.1 = fun _ => 1#1) (r : Fin 320000) : ∃ x : ℝ, a2 (ix1 r) = (x : EReal) ∧ 0 ≤ x := by
  refine real_of_nonneg _ (Eq.trans ?_ (congrFun h (ix1 r)))
  symm
  pointwise [fn, fn_part1]
  try rfl

theorem pre2 (h : (fn a0 a1 a2 a3 a4 a5 a6 a7 a8).2.2.1 = fun _ => 1#1) (r k : Fin 128) : ∃ x : ℝ, a3 (ix2 r k) = (x : EReal) := by
  refine real_of_abs _ (Eq.trans ?_ (congrFun h (ix2 r k)))
  symm
  pointwise [fn, fn_part1]
  try rfl

theorem pre3 (h : (fn a0 a1 a2 a3 a4 a5 a6 a7 a8).2.2.2.1 = fun _ => 1#1) (r : Fin 128) : ∃ x : ℝ, a4 (ix1 r) = (x : EReal) := by
  refine real_of_abs _ (Eq.trans ?_ (congrFun h (ix1 r)))
  symm
  pointwise [fn, fn_part1]
  try rfl

theorem pre4 (h : (fn a0 a1 a2 a3 a4 a5 a6 a7 a8).2.2.2.2.1 = fun _ => 1#1) (k : Fin 128) : ∃ x : ℝ, a5 (ix2 0 k) = (x : EReal) := by
  refine real_of_abs _ (Eq.trans ?_ (congrFun h (ix2 0 k)))
  symm
  pointwise [fn, fn_part1]
  try rfl

theorem pre5 (h : (fn a0 a1 a2 a3 a4 a5 a6 a7 a8).2.2.2.2.2.1 = fun _ => 1#1) : ∃ x : ℝ, a6 (ix1 0) = (x : EReal) := by
  refine real_of_abs _ (Eq.trans ?_ (congrFun h (ix1 0)))
  symm
  pointwise [fn, fn_part1]
  try rfl

theorem pre6 (h : (fn a0 a1 a2 a3 a4 a5 a6 a7 a8).2.2.2.2.2.2.1 = fun _ => 1#1) (r : Fin 320000) : 0 ≤ (a1 (ix1 r)).toInt ∧ (a1 (ix1 r)).toInt < 10000 := by
  have e : (fn a0 a1 a2 a3 a4 a5 a6 a7 a8).2.2.2.2.2.2.1 (ix1 r)
      = IntOp.andi (IntOp.cmpi CmpIPredicate.sge (a1 (ix1 r)) 0#32) (IntOp.cmpi CmpIPredicate.slt (a1 (ix1 r)) 10000#32) := by
    pointwise [fn, fn_part1]
  have h1 := andi_one (e.symm.trans (congrFun h (ix1 r)))
  have h2 := of_decide_eq_true (ofBool_one h1.1)
  have h3 := of_decide_eq_true (ofBool_one h1.2)
  exact ⟨h2, h3⟩

theorem pre7 (h : (fn a0 a1 a2 a3 a4 a5 a6 a7 a8).2.2.2.2.2.2.2 = fun _ => 1#1) (r : Fin 319999) : (a1 (ix1 ⟨r.val, by omega⟩)).toInt ≤ (a1 (ix1 ⟨1 + r.val, by omega⟩)).toInt := by
  have e : (fn a0 a1 a2 a3 a4 a5 a6 a7 a8).2.2.2.2.2.2.2 (ix1 r) = IntOp.cmpi CmpIPredicate.sge (a1 (ix1 ⟨1 + r.val, by omega⟩)) (a1 (ix1 ⟨r.val, by omega⟩)) := by
    pointwise [fn, fn_part1]
  exact of_decide_eq_true (ofBool_one (e.symm.trans (congrFun h (ix1 r))))

end

end Cert.Val

end
-- ==== Proof.Val.Scatter.lean ====
/- The reference's scatter of rows into a table: an entry of the table is the sum of the rows whose index names it. -/
module

public import Idealize.ShloMosaic.Lib.Pointwise
public import Idealize.ShloMosaic.Lib.Routing.Ops

@[expose] public section

set_option maxRecDepth 16384

noncomputable section

namespace Cert.Val

open Idealize.ShloMosaic

/-- Entry `(i, y)` of the rows scattered into a table lands at `(x, y')` exactly when row `i`'s index word, read signed, is `x` and the
    columns are the same. -/
theorem rows_land {n nb B : ℕ} (d : ScatterDims (⟨2, ![nb, B]⟩ : Shape) (⟨2, ![n, 1]⟩ : Shape) (⟨2, ![n, B]⟩ : Shape)) (huw : d.updateWindowDims = [1])
    (hiw : d.insertedWindowDims = [0]) (hsd : d.scatterDimsToOperandDims = [0]) (hivd : d.indexVectorDim = 1) (idx : IVec (⟨2, ![n, 1]⟩ : Shape) 32)
    (i : Fin n) (y y' : Fin B) (x : Fin nb) :
    d.resultIdx? (ix2 i y) idx = some (ix2 x y') ↔ (idx (ix2 i (0 : Fin 1))).toInt = (x.val : Int) ∧ y = y' := by
  have hm : (0 : Fin 2) ∈ d.scatterDimsToOperandDims := by rw [hsd]; exact List.mem_singleton.2 rfl
  have hm1 : (1 : Fin 2) ∉ d.scatterDimsToOperandDims := by rw [hsd]; intro h; cases List.mem_singleton.1 h
  have e0 : ∀ X : Fin 2, X = 0 → (ix2 i y X).val = i.val := fun X h => by subst h; rfl
  have e1 : ∀ X : Fin 2, X = 1 → (ix2 i y X).val = y.val := fun X h => by subst h; rfl
  have hk0 : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have hk1 : ∀ k ∈ d.updateWindowDims, k = (1 : Fin 2) := fun k hk => by rw [huw] at hk; exact List.mem_singleton.1 hk
  have hwin0 : d.window (ix2 i y) 0 = 0 := by
    unfold ScatterDims.window
    rw [dif_neg fun h => (of_decide_eq_true (List.mem_filter.1 h).2) (by rw [hiw]; exact List.mem_singleton.2 rfl)]
  have hk : (1 : Fin 2) ∈ d.sKept := List.mem_filter.2 ⟨List.mem_finRange _, decide_eq_true (by rw [hiw]; intro h; cases List.mem_singleton.1 h)⟩
  have hwin1 : d.window (ix2 i y) 1 = y.val := by
    unfold ScatterDims.window
    rw [dif_pos hk]
    exact e1 _ (hk1 _ (List.getElem_mem _))
  have hs1 : d.start (ix2 i y) idx 1 = 0 := by
    unfold ScatterDims.start
    rw [dif_neg hm1]
  have hs0 : d.start (ix2 i y) idx 0 = (idx (ix2 i (0 : Fin 1))).toInt := by
    unfold ScatterDims.start
    rw [dif_pos hm]
    have hsi : d.siIdx (ix2 i y) ⟨d.scatterDimsToOperandDims.idxOf 0, List.idxOf_lt_length_iff.2 hm⟩ = ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hk0 _ (List.getElem_mem _))
      | ⟨1, _⟩ =>
        unfold ScatterDims.siIdx
        rw [dif_pos (by rw [hivd])]
        show List.idxOf (0 : Fin 2) d.scatterDimsToOperandDims = 0
        rw [hsd]; simp
    rw [hsi]
  have hx := x.isLt
  have hy := y.isLt
  unfold ScatterDims.resultIdx?
  split
  · next h =>
    have h0 := h 0
    change 0 ≤ d.start (ix2 i y) idx 0 + (d.window (ix2 i y) 0 : Int) ∧ d.start (ix2 i y) idx 0 + (d.window (ix2 i y) 0 : Int) < (nb : Int) at h0
    rw [hs0, hwin0] at h0
    constructor
    · intro e
      have f0 := congrArg Fin.val (congrFun (Option.some.inj e) 0)
      have f1 := congrArg Fin.val (congrFun (Option.some.inj e) 1)
      change (d.start (ix2 i y) idx 0 + (d.window (ix2 i y) 0 : Int)).toNat = x.val at f0
      change (d.start (ix2 i y) idx 1 + (d.window (ix2 i y) 1 : Int)).toNat = y'.val at f1
      rw [hs0, hwin0] at f0
      rw [hs1, hwin1] at f1
      exact ⟨by omega, Fin.ext (by omega)⟩
    · rintro ⟨e, rfl⟩
      refine congrArg some (funext fun a => Fin.ext ?_)
      match a with
      | ⟨0, _⟩ =>
        show (d.start (ix2 i y) idx 0 + (d.window (ix2 i y) 0 : Int)).toNat = x.val
        rw [hs0, hwin0]
        omega
      | ⟨1, _⟩ =>
        show (d.start (ix2 i y) idx 1 + (d.window (ix2 i y) 1 : Int)).toNat = y.val
        rw [hs1, hwin1]
        omega
  · next h =>
    constructor
    · intro e; cases e
    · rintro ⟨e, rfl⟩
      refine (h fun a => ?_).elim
      match a with
      | ⟨0, _⟩ =>
        show 0 ≤ d.start (ix2 i y) idx 0 + (d.window (ix2 i y) 0 : Int) ∧ d.start (ix2 i y) idx 0 + (d.window (ix2 i y) 0 : Int) < (nb : Int)
        rw [hs0, hwin0]
        omega
      | ⟨1, _⟩ =>
        show 0 ≤ d.start (ix2 i y) idx 1 + (d.window (ix2 i y) 1 : Int) ∧ d.start (ix2 i y) idx 1 + (d.window (ix2 i y) 1 : Int) < (B : Int)
        rw [hs1, hwin1]
        omega

/-- A scatter of rows into a table of zeros, read at `(x, y)`: the sum over the rows whose index names `x` of their entries in column `y`. -/
theorem rows_sum {n nb B : ℕ} (d : ScatterDims (⟨2, ![nb, B]⟩ : Shape) (⟨2, ![n, 1]⟩ : Shape) (⟨2, ![n, B]⟩ : Shape)) (huw : d.updateWindowDims = [1])
    (hiw : d.insertedWindowDims = [0]) (hsd : d.scatterDimsToOperandDims = [0]) (hivd : d.indexVectorDim = 1) (idx : IVec (⟨2, ![n, 1]⟩ : Shape) 32)
    (z : FVec Ideal (⟨2, ![nb, B]⟩ : Shape) .f32) (hz : ∀ x y, z (ix2 x y) = (0 : EReal)) (upd : FVec Ideal (⟨2, ![n, B]⟩ : Shape) .f32)
    (x : Fin nb) (y : Fin B) :
    Host.scatterAdd d z idx upd (ix2 x y) = ∑ i : Fin n, if (idx (ix2 i (0 : Fin 1))).toInt = (x.val : Int) then (upd (ix2 i y) : EReal) else 0 := by
  show z (ix2 x y) + (∑ j ∈ Finset.univ.filter (fun j => d.resultIdx? j idx = some (ix2 x y)), upd j : EReal) = _
  rw [hz, zero_add, ← Finset.sum_filter]
  refine Finset.sum_bij' (fun j _ => j 0) (fun i _ => ix2 i y) ?_ ?_ ?_ ?_ ?_
  · intro j hj
    have h := (Finset.mem_filter.1 hj).2
    have hj2 : j = ix2 (j 0 : Fin n) (j 1 : Fin B) := by funext a; match a with | ⟨0, _⟩ => rfl | ⟨1, _⟩ => rfl
    rw [hj2] at h
    exact Finset.mem_filter.2 ⟨Finset.mem_univ _, ((rows_land d huw hiw hsd hivd idx _ _ _ _).1 h).1⟩
  · intro i hi
    exact Finset.mem_filter.2 ⟨Finset.mem_univ _, (rows_land d huw hiw hsd hivd idx _ _ _ _).2 ⟨(Finset.mem_filter.1 hi).2, rfl⟩⟩
  · intro j hj
    have h := (Finset.mem_filter.1 hj).2
    have hj2 : j = ix2 (j 0 : Fin n) (j 1 : Fin B) := by funext a; match a with | ⟨0, _⟩ => rfl | ⟨1, _⟩ => rfl
    rw [hj2] at h
    have := ((rows_land d huw hiw hsd hivd idx _ _ _ _).1 h).2
    rw [← this]
    exact hj2.symm
  · intro i hi
    rfl
  · intro j hj
    have h := (Finset.mem_filter.1 hj).2
    have hj2 : j = ix2 (j 0 : Fin n) (j 1 : Fin B) := by funext a; match a with | ⟨0, _⟩ => rfl | ⟨1, _⟩ => rfl
    rw [hj2] at h
    have := ((rows_land d huw hiw hsd hivd idx _ _ _ _).1 h).2
    rw [← this]
    exact congrArg upd hj2

end Cert.Val

end
-- ==== Proof.Val.Ref.lean ====
/- The reference's intermediate arrays, read at their rows: the sums over a segment, the weights and the normalised features. -/
module

public import proofs.«01_k».proof.Proof.Val.Math
public import proofs.«01_k».proof.Proof.Val.Scatter
public import proofs.«01_k».proof.Proof.Gen.ReferenceIdeal.Run
public import Idealize.ShloMosaic.Lib.Routing.Ops

@[expose] public section

set_option maxRecDepth 16384

noncomputable section

namespace Cert.Val

open Cert.ReferenceIdeal Cert.ReferenceIdeal.Gen Cert.ReferenceIdeal.Value
open Idealize.ShloMosaic Idealize.ShloMosaic.TcCoe

/-- The segment numbers as a column of indices. -/
def rIdx (a1 : IVec S320000 32) : IVec S320000x1 32 := broadcastInDim S320000x1 ![0] bcast_S320000_S320000x1_0 a1

/-- The segment numbers as a column of indices, the negative ones counted from the end. -/
def rFix (a1 : IVec S320000 32) : IVec S320000x1 32 :=
  broadcastInDim S320000x1 ![0] bcast_S320000_S320000x1_0 (select (cmpi .slt a1 (broadcastInDim S320000 ![] bcast_S_S320000 (constantI S_ 32 0#32)))
    (addi a1 (broadcastInDim S320000 ![] bcast_S_S320000 (constantI S_ 32 10000#32))) a1)

/-- A table of one column, read at every row's segment. -/
def rGet1 (a1 : IVec S320000 32) (t : FVec Ideal S10000x1 .f32) : FVec Ideal S320000x1 .f32 :=
  Host.gather gather_S10000x1_S320000x1_S320000x1_1_0_n_n_0_1_11 t (rFix a1)

/-- A table of 128 columns, read at every row's segment. -/
def rGet128 (a1 : IVec S320000 32) (t : FVec Ideal S10000x128 .f32) : FVec Ideal S320000x128 .f32 :=
  Host.gather gather_S10000x128_S320000x1_S320000x128_1_0_n_n_0_1_1128 t (rFix a1)

/-- The segments' sums of a column. -/
def rSum1 (a1 : IVec S320000 32) (u : FVec Ideal S320000x1 .f32) : FVec Ideal S10000x1 .f32 :=
  Host.scatterAdd scatter_S10000x1_S320000x1_S320000x1_1_0_0_1 (broadcastInDim S10000x1 ![] bcast_S_S10000x1 (constant S_ .f32 0x00000000#32)) (rIdx a1) u

/-- The segments' sums of 128 columns. -/
def rSum128 (a1 : IVec S320000 32) (u : FVec Ideal S320000x128 .f32) : FVec Ideal S10000x128 .f32 :=
  Host.scatterAdd scatter_S10000x128_S320000x1_S320000x128_1_0_0_1 (broadcastInDim S10000x128 ![] bcast_S_S10000x128 (constant S_ .f32 0x00000000#32)) (rIdx a1) u

section
variable (a1 : IVec S320000 32) (sn : ℕ → ℕ) (hsn : ∀ r, sn r < 10000) (Hs : ∀ r : Fin 320000, a1 (ix1 r) = BitVec.ofNat 32 (sn r.val))

/-- Row `r`'s segment number, as a word. -/
abbrev segW (r : ℕ) : BitVec 32 := BitVec.ofNat 32 (sn r)

include Hs in
theorem rIdx_apply (r : Fin 320000) : rIdx a1 (ix2 r 0) = BitVec.ofNat 32 (sn r.val) := by
  rw [← Hs r]
  pointwise [rIdx]

include hsn Hs in
theorem rFix_apply (r : Fin 320000) : rFix a1 (ix2 r 0) = BitVec.ofNat 32 (sn r.val) := by
  have h : rFix a1 (ix2 r 0) = Scalar.select (IntOp.cmpi .slt (a1 (ix1 r)) 0#32) (a1 (ix1 r) + 10000#32) (a1 (ix1 r)) := by
    pointwise [rFix]
    rfl
  rw [h, Hs r]
  have h1 := hsn r.val
  have h2 : IntOp.cmpi .slt (BitVec.ofNat 32 (sn r.val)) 0#32 = 0#1 := by
    have h3 : (BitVec.ofNat 32 (sn r.val)).slt 0#32 = false := by
      rw [BitVec.slt, BitVec.toInt_eq_toNat_of_lt (by rw [BitVec.toNat_ofNat]; omega)]
      simp only [BitVec.toNat_ofNat, BitVec.toInt_zero, decide_eq_false_iff_not, not_lt]
      omega
    simp [IntOp.cmpi, h3]
  rw [h2]
  rfl

include hsn Hs in
theorem rGet1_apply (t : FVec Ideal S10000x1 .f32) (r : Fin 320000) : rGet1 a1 t (ix2 r 0) = t (ix2 ⟨sn r.val, hsn _⟩ 0) :=
  Routing.gather_row _ rfl rfl rfl rfl rfl t (rFix a1) r 0 ⟨sn r.val, hsn _⟩ (rFix_apply a1 sn hsn Hs r) (by norm_num)

include hsn Hs in
theorem rGet128_apply (t : FVec Ideal S10000x128 .f32) (r : Fin 320000) (q : Fin 128) : rGet128 a1 t (ix2 r q) = t (ix2 ⟨sn r.val, hsn _⟩ q) :=
  Routing.gather_row _ rfl rfl rfl rfl rfl t (rFix a1) r q ⟨sn r.val, hsn _⟩ (rFix_apply a1 sn hsn Hs r) (by norm_num)

include hsn in
/-- A sum over the rows whose index is row `r`'s segment is the sum over `r`'s segment. -/
theorem sum_seg (v : ℕ → ℝ) (r : ℕ) : (∑ i : Fin 320000, if (BitVec.ofNat 32 (sn i.val)).toInt = (sn r : Int) then ((v i.val : ℝ) : EReal) else 0)
    = ((segS (segW sn) v r : ℝ) : EReal) := by
  unfold segS below
  rw [coe_sum, Finset.sum_range]
  refine Finset.sum_congr rfl fun i _ => ?_
  rw [coe_ite]
  refine if_congr ?_ rfl rfl
  have h1 := hsn i.val
  have h2 := hsn r
  rw [BitVec.toInt_eq_toNat_of_lt (by rw [BitVec.toNat_ofNat]; omega), BitVec.toNat_ofNat]
  constructor
  · intro h
    exact congrArg (BitVec.ofNat 32) (by omega)
  · intro h
    have := congrArg BitVec.toNat h
    simp only [BitVec.toNat_ofNat] at this
    omega

include hsn Hs in
theorem rSum1_apply (u : FVec Ideal S320000x1 .f32) (v : ℕ → ℝ) (hu : ∀ i : Fin 320000, u (ix2 i 0) = (v i.val : EReal)) (r : ℕ) :
    rSum1 a1 u (ix2 ⟨sn r, hsn _⟩ 0) = ((segS (segW sn) v r : ℝ) : EReal) := by
  refine (rows_sum _ rfl rfl rfl rfl (rIdx a1) _ (fun x y => by pointwise []) u ⟨sn r, hsn _⟩ 0).trans ?_
  rw [← sum_seg sn hsn]
  refine Finset.sum_congr rfl fun i _ => ?_
  rw [rIdx_apply a1 sn Hs, hu]

include hsn Hs in
theorem rSum128_apply (u : FVec Ideal S320000x128 .f32) (q : Fin 128) (v : ℕ → ℝ) (hu : ∀ i : Fin 320000, u (ix2 i q) = (v i.val : EReal)) (r : ℕ) :
    rSum128 a1 u (ix2 ⟨sn r, hsn _⟩ q) = ((segS (segW sn) v r : ℝ) : EReal) := by
  refine (rows_sum _ rfl rfl rfl rfl (rIdx a1) _ (fun x y => by pointwise []) u ⟨sn r, hsn _⟩ q).trans ?_
  rw [← sum_seg sn hsn]
  refine Finset.sum_congr rfl fun i _ => ?_
  rw [rIdx_apply a1 sn Hs, hu]

end

end Cert.Val

end
-- ==== Proof.Val.RefAtt.lean ====
/- The reference's features, attention scores and the segments' maxima, read at their rows. -/
module

public import proofs.«01_k».proof.Proof.Val.Ref

@[expose] public section

set_option maxRecDepth 16384

noncomputable section

namespace Cert.Val

open Cert.ReferenceIdeal Cert.ReferenceIdeal.Gen Cert.ReferenceIdeal.Value
open Idealize.ShloMosaic Idealize.ShloMosaic.TcCoe

section
variable (hR : ℕ → Fin 128 → ℝ) (aR wR : ℕ → ℝ) (sn : ℕ → ℕ) (hsn : ∀ r, sn r < 10000)
variable (V : Valuation τ sig (Elt Ideal))
variable (Hh : ∀ (r : Fin 320000) (q : Fin 128),
  addE (∑ k : Fin 128, mulE (V (Proc.devRef .tc main_arg0) (ix2 r k)) (V (Proc.devRef .tc main_arg3) (ix2 q k))) (V (Proc.devRef .tc main_arg4) (ix1 q)) = (hR r.val q : EReal))
variable (Ha : ∀ r : Fin 320000,
  addE (∑ k : Fin 128, mulE (hR r.val k : EReal) (V (Proc.devRef .tc main_arg5) (ix2 0 k))) (V (Proc.devRef .tc main_arg6) (ix1 0)) = (aR r.val : EReal))
variable (Hw : ∀ r : Fin 320000, V (Proc.devRef .tc main_arg2) (ix1 r) = (wR r.val : EReal))
variable (Hs : ∀ r : Fin 320000, V (Proc.devRef .tc main_arg1) (ix1 r) = BitVec.ofNat 32 (sn r.val))

/-- The printed −∞. -/
theorem ninf_eq : Ideal.ofBits FTy.f32 4286578688#32 = (⊥ : EReal) := by
  simp [Ideal.ofBits, Ideal.ieee]

/-- The printed 0. -/
theorem zero_eq : Ideal.ofBits FTy.f32 0#32 = (0 : EReal) := by
  simp [Ideal.ofBits, Ideal.ieee]

/-- The printed +∞. -/
theorem pinf_eq : Ideal.ofBits FTy.f32 2139095040#32 = (⊤ : EReal) := by
  simp [Ideal.ofBits, Ideal.ieee]

include Hh in
/-- The features. -/
theorem v4_apply (r : Fin 320000) (q : Fin 128) : res_main_v4 V (ix2 r q) = (hR r.val q : EReal) := by
  rw [← Hh r q]
  pointwise [res_main_v4]

include Hh Ha in
/-- The attention scores. -/
theorem v9_apply (r : Fin 320000) : res_main_v9 V (ix2 r 0) = (aR r.val : EReal) := by
  rw [← Ha r]
  have h := v4_apply hR V Hh r
  unfold res_main_v9
  generalize res_main_v4 V = G at h ⊢
  pointwise []
  simp only [h]

include hsn Hh Ha Hs in
/-- The maximum over a segment. -/
theorem v18_apply (s : Fin 10000) : res_main_v18 V (ix2 s 0)
    = Finset.univ.fold max (⊥ : EReal) (fun i : Fin 320000 => if sn i.val = s.val then (aR i.val : EReal) else ⊥) := by
  have h := v9_apply hR aR V Hh Ha
  unfold res_main_v18
  generalize res_main_v9 V = G at h ⊢
  pointwise []
  refine Finset.fold_congr (fun x _ => ?_) |>.trans (congrArg (fun z : EReal => Finset.univ.fold max z _) ninf_eq)
  rw [sel_eq, h, Hs]
  refine if_congr ⟨fun e => ?_, fun e => congrArg _ e⟩ rfl ninf_eq
  have e1 := congrArg BitVec.toNat e
  have := hsn x.val
  simp only [BitVec.toNat_ofNat] at e1
  omega

include hsn Hh Ha Hs in
/-- The maximum over a row's segment is a real. -/
theorem v18_real (r : Fin 320000) : ∃ μ : ℝ, res_main_v18 V (ix2 ⟨sn r.val, hsn _⟩ 0) = (μ : EReal) := by
  rw [v18_apply hR aR sn hsn V Hh Ha Hs]
  have h1 : ((aR r.val : ℝ) : EReal) ≤ Finset.univ.fold max (⊥ : EReal) (fun i : Fin 320000 => if sn i.val = sn r.val then (aR i.val : EReal) else ⊥) :=
    Finset.le_fold_max _ |>.2 (Or.inr ⟨r, Finset.mem_univ _, by rw [if_pos rfl]⟩)
  have h2 : Finset.univ.fold max (⊥ : EReal) (fun i : Fin 320000 => if sn i.val = sn r.val then (aR i.val : EReal) else ⊥) < ⊤ := by
    refine Finset.fold_max_lt _ |>.2 ⟨bot_lt_top, fun i _ => ?_⟩
    split
    · exact EReal.coe_lt_top _
    · exact bot_lt_top
  refine ⟨_, (EReal.coe_toReal h2.ne (ne_of_gt (lt_of_lt_of_le (EReal.bot_lt_coe _) h1))).symm⟩

/-- The maximum over a row's segment, a real. -/
def mxR (r : ℕ) : ℝ := EReal.toReal (res_main_v18 V (ix2 ⟨sn r, hsn r⟩ 0))

theorem mxR_same {j r : ℕ} (h : sn j = sn r) : mxR sn hsn V j = mxR sn hsn V r := by
  unfold mxR
  simp only [h]

/-- Two rows of the same word are of the same segment. -/
theorem sn_same (sn : ℕ → ℕ) (hsn : ∀ r, sn r < 10000) {j r : ℕ} (h : segW sn j = segW sn r) : sn j = sn r := by
  have e1 := congrArg BitVec.toNat h
  have h1 := hsn j
  have h2 := hsn r
  simp only [BitVec.toNat_ofNat] at e1
  omega

include hsn Hh Ha Hs in
theorem v18_mxR (r : Fin 320000) : res_main_v18 V (ix2 ⟨sn r.val, hsn _⟩ 0) = (mxR sn hsn V r.val : EReal) := by
  obtain ⟨μ, h⟩ := v18_real hR aR sn hsn V Hh Ha Hs r
  unfold mxR
  rw [h, EReal.toReal_coe]

/-- A column, its infinite entries replaced by 0. -/
def rFin (t : FVec Ideal S10000x1 .f32) : FVec Ideal S10000x1 .f32 :=
  select (cmpf .olt (Host.absf t) (broadcastInDim S10000x1 ![] bcast_S_S10000x1 (constant S_ .f32 0x7F800000#32)))
    t (broadcastInDim S10000x1 ![] bcast_S_S10000x1 (id (constant S_ .f32 0x00000000#32)))

/-- The segments' maxima, the infinite ones replaced by 0. -/
abbrev rMax : FVec Ideal S10000x1 .f32 := rFin (res_main_v18 V)

/-- A real entry stays. -/
theorem rFin_apply (t : FVec Ideal S10000x1 .f32) (s : Fin 10000) (μ : ℝ) (h : t (ix2 s 0) = (μ : EReal)) : rFin t (ix2 s 0) = (μ : EReal) := by
  have e : rFin t (ix2 s 0) = if max (t (ix2 s 0)) (-(t (ix2 s 0))) < Ideal.ofBits FTy.f32 2139095040#32 then t (ix2 s 0) else 0 := by
    pointwise [rFin]
    exact if_congr Iff.rfl rfl zero_eq
  rw [e, h, pinf_eq, ← EReal.coe_neg, max_real, if_pos (EReal.coe_lt_top _)]

theorem v31_eq : res_main_v31 V = Host.exp (subf (res_main_v9 V) (rGet1 (V (Proc.devRef .tc main_arg1)) (rMax V))) := rfl

include hsn Hh Ha Hs in
theorem rMax_apply (r : Fin 320000) : rMax V (ix2 ⟨sn r.val, hsn _⟩ 0) = (mxR sn hsn V r.val : EReal) := by
  exact rFin_apply _ _ _ (v18_mxR hR aR sn hsn V Hh Ha Hs r)

include hsn Hh Ha Hs in
/-- The exponentials, each below its segment's maximum. -/
theorem v31_apply (r : Fin 320000) : res_main_v31 V (ix2 r 0) = (Real.exp (aR r.val - mxR sn hsn V r.val) : EReal) := by
  have h := v9_apply hR aR V Hh Ha r
  have hg := (rGet1_apply _ sn hsn Hs (rMax V) r).trans (rMax_apply hR aR sn hsn V Hh Ha Hs r)
  rw [v31_eq]
  generalize res_main_v9 V = G at h ⊢
  generalize rGet1 _ _ = G' at hg ⊢
  pointwise []
  simp only [h, hg]
  rw [← EReal.coe_sub]
  exact Ideal.exp_coe _

end

end Cert.Val

end
-- ==== Proof.Val.Data.lean ====
/- The reals and the segment numbers the argument arrays hold, under the precondition. -/
module

public import proofs.«01_k».proof.Proof.Val.PreRead
public import proofs.«01_k».proof.Proof.Val.RefAtt

@[expose] public section

set_option maxRecDepth 16384

noncomputable section

namespace Cert.Val

open Cert.Pre_sorted_finite
open Idealize.ShloMosaic

/-- A function of the rows, extended by `d` past them. -/
def ext {α : Type} (d : α) (n : ℕ) (f : Fin n → α) (r : ℕ) : α := if h : r < n then f ⟨r, h⟩ else d

theorem ext_fin {α : Type} (d : α) (n : ℕ) (f : Fin n → α) (r : Fin n) : ext d n f r.val = f r := by
  unfold ext
  rw [dif_pos r.isLt]

/-- A dot product of reals and a real more is a real. -/
theorem lin_real (n : ℕ) (x y : Fin n → EReal) (b : EReal) (hx : ∀ k, ∃ u : ℝ, x k = (u : EReal)) (hy : ∀ k, ∃ u : ℝ, y k = (u : EReal))
    (hb : ∃ u : ℝ, b = (u : EReal)) : ∃ u : ℝ, addE (∑ k : Fin n, mulE (x k) (y k)) b = (u : EReal) := by
  choose f hf using hx
  choose g hg using hy
  obtain ⟨v, rfl⟩ := hb
  refine ⟨(∑ k : Fin n, f k * g k) + v, ?_⟩
  simp only [hf, hg, mulE, addE, ← EReal.coe_mul]
  rw [← coe_sum, ← EReal.coe_add]

section
variable (a0 : FVec Ideal S320000x128 .f32) (a1 : IVec S320000 32) (a2 : FVec Ideal S320000 .f32) (a3 : FVec Ideal S128x128 .f32)
  (a4 : FVec Ideal S128 .f32) (a5 : FVec Ideal S1x128 .f32) (a6 : FVec Ideal S1 .f32) (a7 a8 : FVec Ideal S128 .f32)

/-- The features, as reals. -/
def hN (r : ℕ) (q : Fin 128) : ℝ :=
  ext 0 320000 (fun r => EReal.toReal (addE (∑ k : Fin 128, mulE (a0 (ix2 r k)) (a3 (ix2 q k))) (a4 (ix1 q)))) r
/-- The attention scores, as reals. -/
def aN (r : ℕ) : ℝ := EReal.toReal (addE (∑ k : Fin 128, mulE (hN a0 a3 a4 r k : EReal) (a5 (ix2 0 k))) (a6 (ix1 0)))
/-- The row weights, as reals. -/
def wN (r : ℕ) : ℝ := ext 0 320000 (fun r => EReal.toReal (a2 (ix1 r))) r
/-- The segment numbers. -/
def sN (r : ℕ) : ℕ := ext 0 320000 (fun r => (a1 (ix1 r)).toNat) r

/-- The precondition of the arrays. -/
def PreA : Prop :=
  (fn a0 a1 a2 a3 a4 a5 a6 a7 a8).1 = (fun _ => 1#1)
    ∧ (fn a0 a1 a2 a3 a4 a5 a6 a7 a8).2.1 = (fun _ => 1#1)
    ∧ (fn a0 a1 a2 a3 a4 a5 a6 a7 a8).2.2.1 = (fun _ => 1#1)
    ∧ (fn a0 a1 a2 a3 a4 a5 a6 a7 a8).2.2.2.1 = (fun _ => 1#1)
    ∧ (fn a0 a1 a2 a3 a4 a5 a6 a7 a8).2.2.2.2.1 = (fun _ => 1#1)
    ∧ (fn a0 a1 a2 a3 a4 a5 a6 a7 a8).2.2.2.2.2.1 = (fun _ => 1#1)
    ∧ (fn a0 a1 a2 a3 a4 a5 a6 a7 a8).2.2.2.2.2.2.1 = (fun _ => 1#1)
    ∧ (fn a0 a1 a2 a3 a4 a5 a6 a7 a8).2.2.2.2.2.2.2 = (fun _ => 1#1)

variable (h : PreA a0 a1 a2 a3 a4 a5 a6 a7 a8)

include h in
theorem hN_eq (r : Fin 320000) (q : Fin 128) :
    addE (∑ k : Fin 128, mulE (a0 (ix2 r k)) (a3 (ix2 q k))) (a4 (ix1 q)) = (hN a0 a3 a4 r.val q : EReal) := by
  obtain ⟨h0, h1, h2, h3, h4, h5, h6, h7⟩ := h
  obtain ⟨u, hu⟩ := lin_real 128 (fun k => a0 (ix2 r k)) (fun k => a3 (ix2 q k)) (a4 (ix1 q)) (fun k => pre0 _ _ _ _ _ _ _ _ _ h0 r k)
    (fun k => pre2 _ _ _ _ _ _ _ _ _ h2 q k) (pre3 _ _ _ _ _ _ _ _ _ h3 q)
  unfold hN
  rw [ext_fin]
  exact hu.trans (congrArg (fun z : EReal => ((z.toReal : ℝ) : EReal)) hu.symm)

include h in
theorem aN_eq (r : ℕ) : addE (∑ k : Fin 128, mulE (hN a0 a3 a4 r k : EReal) (a5 (ix2 0 k))) (a6 (ix1 0)) = (aN a0 a3 a4 a5 a6 r : EReal) := by
  obtain ⟨h0, h1, h2, h3, h4, h5, h6, h7⟩ := h
  obtain ⟨u, hu⟩ := lin_real 128 (fun k => (hN a0 a3 a4 r k : EReal)) (fun k => a5 (ix2 0 k)) (a6 (ix1 0)) (fun k => ⟨_, rfl⟩)
    (fun k => pre4 _ _ _ _ _ _ _ _ _ h4 k) (pre5 _ _ _ _ _ _ _ _ _ h5)
  unfold aN
  exact hu.trans (congrArg (fun z : EReal => ((z.toReal : ℝ) : EReal)) hu.symm)

include h in
theorem wN_eq (r : Fin 320000) : a2 (ix1 r) = (wN a2 r.val : EReal) := by
  obtain ⟨u, hu, -⟩ := pre1 _ _ _ _ _ _ _ _ _ h.2.1 r
  unfold wN
  rw [ext_fin, hu, EReal.toReal_coe]

include h in
theorem wN_nonneg (r : ℕ) (hr : r < 320000) : 0 ≤ wN a2 r := by
  obtain ⟨u, hu, hn⟩ := pre1 _ _ _ _ _ _ _ _ _ h.2.1 ⟨r, hr⟩
  have e := ext_fin (0 : ℝ) 320000 (fun r => EReal.toReal (a2 (ix1 r))) ⟨r, hr⟩
  unfold wN
  refine le_of_le_of_eq hn (Eq.trans ?_ e.symm)
  show u = EReal.toReal (a2 (ix1 ⟨r, hr⟩))
  rw [hu, EReal.toReal_coe]

include h in
/-- A word of the segments is its number, below 10000. -/
theorem word_lt (r : Fin 320000) : (a1 (ix1 r)).toNat < 10000 ∧ (a1 (ix1 r)).toInt = ((a1 (ix1 r)).toNat : ℤ) := by
  obtain ⟨h0, h1⟩ := pre6 _ _ _ _ _ _ _ _ _ h.2.2.2.2.2.2.1 r
  have h2 := (a1 (ix1 r)).isLt
  rw [BitVec.toInt_eq_toNat_cond] at h0 h1 ⊢
  split at h0 <;> omega

include h in
theorem sN_lt (r : ℕ) : sN a1 r < 10000 := by
  by_cases hr : r < 320000
  · have e := ext_fin 0 320000 (fun r => (a1 (ix1 r)).toNat) ⟨r, hr⟩
    exact lt_of_eq_of_lt e (word_lt _ _ _ _ _ _ _ _ _ h ⟨r, hr⟩).1
  · unfold sN ext
    rw [dif_neg hr]
    norm_num

theorem sN_eq (r : Fin 320000) : a1 (ix1 r) = BitVec.ofNat 32 (sN a1 r.val) := by
  unfold sN
  rw [ext_fin, BitVec.ofNat_toNat, BitVec.setWidth_eq]

include h in
/-- The segment numbers ascend. -/
theorem sN_step (r : ℕ) (hr : r + 1 < 320000) : sN a1 r ≤ sN a1 (r + 1) := by
  have h7 := pre7 _ _ _ _ _ _ _ _ _ h.2.2.2.2.2.2.2 ⟨r, by omega⟩
  have e1 := ext_fin 0 320000 (fun r => (a1 (ix1 r)).toNat) ⟨r, by omega⟩
  have e2 := ext_fin 0 320000 (fun r => (a1 (ix1 r)).toNat) ⟨r + 1, hr⟩
  have e3 : (⟨1 + r, by omega⟩ : Fin 320000) = ⟨r + 1, hr⟩ := Fin.ext (Nat.add_comm _ _)
  replace h7 : (a1 (ix1 ⟨r, by omega⟩)).toInt ≤ (a1 (ix1 ⟨1 + r, by omega⟩)).toInt := h7
  rw [e3, (word_lt _ _ _ _ _ _ _ _ _ h _).2, (word_lt _ _ _ _ _ _ _ _ _ h _).2] at h7
  refine le_of_eq_of_le e1 (le_of_le_of_eq ?_ e2.symm)
  show (a1 (ix1 ⟨r, by omega⟩)).toNat ≤ (a1 (ix1 ⟨r + 1, hr⟩)).toNat
  omega

/-- Numbers that ascend step by step ascend. -/
theorem mono_of_step (N : ℕ) (s : ℕ → ℕ) (hs : ∀ r, r + 1 < N → s r ≤ s (r + 1)) (i d : ℕ) (h : i + d < N) : s i ≤ s (i + d) := by
  induction d with
  | zero => exact le_refl _
  | succ d ih => exact (ih (by omega)).trans (hs (i + d) h)

/-- Ascending numbers' segments are contiguous. -/
theorem contig_of_step (N : ℕ) (s : ℕ → ℕ) (hs : ∀ r, r + 1 < N → s r ≤ s (r + 1)) (hlt : ∀ r, s r < 10000) : Contig (segW s) N := by
  intro i j k hij hjk hk e
  have e1 := sn_same s hlt e
  have a := mono_of_step N s hs i (j - i) (by omega)
  have b := mono_of_step N s hs j (k - j) (by omega)
  rw [show i + (j - i) = j by omega] at a
  rw [show j + (k - j) = k by omega] at b
  exact congrArg (BitVec.ofNat 32) (by omega)

include h in
theorem sN_contig : Contig (segW (sN a1)) 320000 := contig_of_step _ _ (sN_step _ _ _ _ _ _ _ _ _ h) (sN_lt _ _ _ _ _ _ _ _ _ h)

/-- A segment's word is neither of the fillers. -/
theorem segW_ne (s : ℕ → ℕ) (hlt : ∀ r, s r < 10000) (x : BitVec 32) (hx : 10000 ≤ x.toNat) (r : ℕ) : segW s r ≠ x := by
  intro e
  have h1 := congrArg BitVec.toNat e
  have := hlt r
  simp only [BitVec.toNat_ofNat] at h1
  omega

end

end Cert.Val

end
-- ==== Proof.Val.RefWt.lean ====
/- The reference's weights in their segments, read at their rows. -/
module

public import proofs.«01_k».proof.Proof.Val.RefAtt

@[expose] public section

set_option maxRecDepth 16384

noncomputable section

namespace Cert.Val

open Cert.ReferenceIdeal Cert.ReferenceIdeal.Gen Cert.ReferenceIdeal.Value
open Idealize.ShloMosaic Idealize.ShloMosaic.TcCoe

section
variable (hR : ℕ → Fin 128 → ℝ) (aR wR : ℕ → ℝ) (sn : ℕ → ℕ) (hsn : ∀ r, sn r < 10000)

/-- The exponentials of the scores. -/
abbrev eX (aR : ℕ → ℝ) (r : ℕ) : ℝ := Real.exp (aR r)

/-- A segment's exponentials below its maximum sum to the exponentials' sum, scaled. -/
theorem segS_exp (mx : ℕ → ℝ) (hmx : ∀ j r, segW sn j = segW sn r → mx j = mx r) (r : ℕ) :
    segS (segW sn) (fun j => Real.exp (aR j - mx j)) r = Real.exp (-mx r) * totE (eX aR) (segW sn) r := by
  unfold totE
  rw [← segS_mul]
  refine segS_congr _ r fun j e => ?_
  rw [hmx j r e, ← Real.exp_add]
  congr 1
  ring

/-- A segment's normalised weights sum to the quotient of the totals. -/
theorem segS_quot (r : ℕ) : segS (segW sn) (fun j => eX aR j / totE (eX aR) (segW sn) j * wR j) r
    = totU (eX aR) wR (segW sn) r / totE (eX aR) (segW sn) r := by
  unfold totU
  rw [div_eq_inv_mul, ← segS_mul]
  refine segS_congr _ r fun j e => ?_
  rw [show totE (eX aR) (segW sn) j = totE (eX aR) (segW sn) r from segS_same _ _ e]
  ring

/-- The weight by either divisor. -/
theorem wt_eq (r : ℕ) (hE : 0 < totE (eX aR) (segW sn) r) :
    eX aR r / totE (eX aR) (segW sn) r * wR r / max kapR (totU (eX aR) wR (segW sn) r / totE (eX aR) (segW sn) r) = wtA (eX aR) wR (segW sn) r := by
  unfold wtA denD
  have h : max (totU (eX aR) wR (segW sn) r) (kapR * totE (eX aR) (segW sn) r)
      = max kapR (totU (eX aR) wR (segW sn) r / totE (eX aR) (segW sn) r) * totE (eX aR) (segW sn) r := by
    rw [max_mul_of_nonneg _ _ hE.le, div_mul_cancel₀ _ hE.ne', max_comm]
  rw [h]
  have h2 : 0 < max kapR (totU (eX aR) wR (segW sn) r / totE (eX aR) (segW sn) r) := lt_max_of_lt_left kapR_pos
  field_simp

variable (V : Valuation τ sig (Elt Ideal))
variable (Hh : ∀ (r : Fin 320000) (q : Fin 128),
  addE (∑ k : Fin 128, mulE (V (Proc.devRef .tc main_arg0) (ix2 r k)) (V (Proc.devRef .tc main_arg3) (ix2 q k))) (V (Proc.devRef .tc main_arg4) (ix1 q)) = (hR r.val q : EReal))
variable (Ha : ∀ r : Fin 320000,
  addE (∑ k : Fin 128, mulE (hR r.val k : EReal) (V (Proc.devRef .tc main_arg5) (ix2 0 k))) (V (Proc.devRef .tc main_arg6) (ix1 0)) = (aR r.val : EReal))
variable (Hw : ∀ r : Fin 320000, V (Proc.devRef .tc main_arg2) (ix1 r) = (wR r.val : EReal))
variable (Hs : ∀ r : Fin 320000, V (Proc.devRef .tc main_arg1) (ix1 r) = BitVec.ofNat 32 (sn r.val))

theorem v44_eq : res_main_v44 V = mulf (Host.divf (res_main_v31 V) (rGet1 (V (Proc.devRef .tc main_arg1)) (rSum1 (V (Proc.devRef .tc main_arg1)) (res_main_v31 V))))
    (broadcastInDim S320000x1 ![0] bcast_S320000_S320000x1_0 (V (Proc.devRef .tc main_arg2))) := rfl

theorem v56_eq : res_main_v56 V = Host.divf (res_main_v44 V) (maximumf (broadcastInDim S320000x1 ![] bcast_S_S320000x1 (id (constant S_ .f32 0x3A83126F#32)))
    (rGet1 (V (Proc.devRef .tc main_arg1)) (rSum1 (V (Proc.devRef .tc main_arg1)) (res_main_v44 V)))) := rfl

include hsn Hh Ha Hw Hs in
/-- The exponentials over their segment's sum, times the row weights. -/
theorem v44_apply (r : Fin 320000) : res_main_v44 V (ix2 r 0) = ((eX aR r.val / totE (eX aR) (segW sn) r.val * wR r.val : ℝ) : EReal) := by
  have h := v31_apply hR aR sn hsn V Hh Ha Hs
  have hE := totE_pos (eX aR) (segW sn) (fun j _ => Real.exp_pos _) r.val r.isLt
  have hg := (rGet1_apply _ sn hsn Hs (rSum1 _ (res_main_v31 V)) r).trans (rSum1_apply _ sn hsn Hs (res_main_v31 V) (fun j => Real.exp (aR j - mxR sn hsn V j)) h r.val)
  rw [segS_exp aR sn (mxR sn hsn V) (fun j r e => mxR_same sn hsn V (sn_same sn hsn e))] at hg
  rw [v44_eq]
  generalize rGet1 _ _ = G' at hg ⊢
  generalize res_main_v31 V = G at h ⊢
  pointwise []
  rw [h, hg, Hw]
  refine (congrArg (fun z : EReal => z * _) (div_real _ _ (mul_pos (Real.exp_pos _) hE).ne')).trans ?_
  rw [← EReal.coe_mul]
  congr 1
  rw [sub_eq_add_neg, Real.exp_add]
  have := Real.exp_pos (-mxR sn hsn V r.val)
  field_simp

include hsn Hh Ha Hw Hs in
/-- The weights in their segments. -/
theorem v56_apply (r : Fin 320000) : res_main_v56 V (ix2 r 0) = (wtA (eX aR) wR (segW sn) r.val : EReal) := by
  have h := v44_apply hR aR wR sn hsn V Hh Ha Hw Hs
  have hE := totE_pos (eX aR) (segW sn) (fun j _ => Real.exp_pos _) r.val r.isLt
  have hg := (rGet1_apply _ sn hsn Hs (rSum1 _ (res_main_v44 V)) r).trans
    (rSum1_apply _ sn hsn Hs (res_main_v44 V) (fun j => eX aR j / totE (eX aR) (segW sn) j * wR j) h r.val)
  rw [segS_quot] at hg
  rw [v56_eq]
  generalize rGet1 _ _ = G' at hg ⊢
  generalize res_main_v44 V = G at h ⊢
  pointwise []
  rw [h, hg]
  refine (congrArg (fun z : EReal => Ideal.div _ (max z _)) kap_eq).trans ?_
  rw [max_real, div_real _ _ (lt_max_of_lt_left kapR_pos).ne', wt_eq _ _ _ _ hE]

end

end Cert.Val

end
-- ==== Proof.Val.KerOut.lean ====
/- The kernel's two results as functions of the argument arrays. -/
module

public import proofs.«01_k».proof.Proof.Val.HostPre
public import proofs.«01_k».proof.Proof.Val.Region
public import proofs.«01_k».proof.Proof.Val.Data
public import proofs.«01_k».proof.Proof.Val.RefWt

@[expose] public section

set_option maxRecDepth 16384

noncomputable section

namespace Cert.Val

open Cert.KernelIdeal Cert.KernelIdeal.Gen Cert.KernelIdeal.Hand
open Idealize.ShloMosaic Idealize.ShloMosaic.TcCoe
variable (m : (ℓ : Loc nD τ sig) → Buf (Elt Ideal) ℓ) (c : Dev nD)

/-- The features. -/
abbrev kH : ℕ → Fin 128 → ℝ := hN (m ((c : Thread nD τ).loc main_arg0)) (m ((c : Thread nD τ).loc main_arg3)) (m ((c : Thread nD τ).loc main_arg4))
/-- The attention scores. -/
abbrev kA : ℕ → ℝ := aN (m ((c : Thread nD τ).loc main_arg0)) (m ((c : Thread nD τ).loc main_arg3)) (m ((c : Thread nD τ).loc main_arg4))
  (m ((c : Thread nD τ).loc main_arg5)) (m ((c : Thread nD τ).loc main_arg6))
/-- The row weights. -/
abbrev kW : ℕ → ℝ := wN (m ((c : Thread nD τ).loc main_arg2))
/-- The segment numbers. -/
abbrev kS : ℕ → ℕ := sN (m ((c : Thread nD τ).loc main_arg1))

variable (hp : PreA (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)))

include hp in
theorem in_h (r : Fin 320000) (q : Fin 128) : addE (∑ k : Fin 128, mulE (V3 m c (Proc.devRef .tc main_arg0) (ix2 r k)) (V3 m c (Proc.devRef .tc main_v2) (ix2 k q)))
    (V3 m c (Proc.devRef .tc main_v3) (ix2 0 q)) = (kH m c r.val q : EReal) :=
  (congrArg₂ addE (Finset.sum_congr rfl fun k _ => congrArg₂ mulE (congrFun (V3_arg0 m c) (ix2 r k)) (V3_v2 m c k q)) (V3_v3 m c q)).trans
    (hN_eq _ _ _ _ _ _ _ _ _ hp r q)

include hp in
theorem in_e (r : Fin 320000) : Ideal.exp (addE (∑ k : Fin 128, mulE (kH m c r.val k : EReal) (V3 m c (Proc.devRef .tc main_v4) (ix2 k 0)))
    (V3 m c (Proc.devRef .tc main_v5) (ix2 0 0))) = (eX (kA m c) r.val : EReal) := by
  have e := (congrArg₂ addE (Finset.sum_congr rfl fun k _ => congrArg₂ mulE rfl (V3_v4 m c k)) (V3_v5 m c)).trans
    (aN_eq _ _ _ _ _ _ _ _ _ hp r.val)
  exact (congrArg Ideal.exp e).trans (Ideal.exp_coe _)

include hp in
theorem in_w (r : Fin 320000) : V3 m c (Proc.devRef .tc main_v1) (ix2 r 0) = (kW m c r.val : EReal) :=
  (V3_v1 m c r).trans (wN_eq _ _ _ _ _ _ _ _ _ hp r)

theorem in_s (r : Fin 320000) : V3 m c (Proc.devRef .tc main_v0) (ix2 r 0) = segW (kS m c) r.val :=
  (V3_v0 m c r).trans (sN_eq _ r)

/-- A buffer the forward region does not write. -/
theorem W4_keeps (b : Ref sig .tc) (h : ∀ w, Pipeline.arrRef spec0 w = b → (cfg0.win w).isOut = false) :
    W4 m c (Proc.devRef .tc b) = V3 m c (Proc.devRef .tc b) :=
  Pipeline.afterRegion_keeps (dat0 (V3 m) c) (V3 m c) launch0.win.arr_inj (fun _ => rfl) b h

include hp in
theorem mid_h (r : Fin 320000) (q : Fin 128) : W4 m c (Proc.devRef .tc main_v16_0) (ix2 r q) = (kH m c r.val q : EReal) :=
  congrFun (fwd_arr_h (kH m c) (V3 m) c (in_h m c hp)) (ix2 r q)

include hp in
theorem mid_e (r : Fin 320000) : W4 m c (Proc.devRef .tc main_v16_1) (ix2 r 0) = (eX (kA m c) r.val : EReal) :=
  congrFun (fwd_arr_e (kH m c) (eX (kA m c)) (V3 m) c (in_h m c hp) (in_e m c hp)) (ix2 r 0)

include hp in
theorem mid_P (r : Fin 320000) (l : Fin 384) : W4 m c (Proc.devRef .tc main_v16_2) (ix2 r l)
    = ((below (segW (kS m c)) (vR (kH m c) (eX (kA m c)) (kW m c) l) (r.val + 1) (segW (kS m c) r.val) : ℝ) : EReal) :=
  congrFun (fwd_arr_P (kH m c) (eX (kA m c)) (kW m c) (segW (kS m c)) (V3 m) c (sN_contig _ _ _ _ _ _ _ _ _ hp) (in_h m c hp) (in_e m c hp)
    (in_w m c hp) (in_s m c) (fun r _ => segW_ne _ (sN_lt _ _ _ _ _ _ _ _ _ hp) _ (by decide) r)) (ix2 r l)

include hp in
theorem mid_w (r : Fin 320000) : W4 m c (Proc.devRef .tc main_v1) (ix2 r 0) = (kW m c r.val : EReal) :=
  (congrFun (W4_keeps m c main_v1 (by decide)) (ix2 r 0)).trans (in_w m c hp r)

theorem mid_s (r : Fin 320000) : W4 m c (Proc.devRef .tc main_v0) (ix2 r 0) = segW (kS m c) r.val :=
  (congrFun (W4_keeps m c main_v0 (by decide)) (ix2 r 0)).trans (in_s m c r)

theorem mid_mg (a b : Fin 128) : W4 m c (Proc.devRef .tc main_v15) (ix2 a b) = mgE a b :=
  (congrFun (W4_keeps m c main_v15 (by decide)) (ix2 a b)).trans (V3_v15 m c a b)

theorem mid_gg (a : Fin 128) : W4 m c (Proc.devRef .tc main_v6) (ix2 0 a) = m ((c : Thread nD τ).loc main_arg7) (ix1 a) :=
  (congrFun (W4_keeps m c main_v6 (by decide)) (ix2 0 a)).trans (V3_v6 m c a)

theorem mid_gb (a : Fin 128) : W4 m c (Proc.devRef .tc main_v7) (ix2 0 a) = m ((c : Thread nD τ).loc main_arg8) (ix1 a) :=
  (congrFun (W4_keeps m c main_v7 (by decide)) (ix2 0 a)).trans (V3_v7 m c a)

include hp in
/-- The kernel's first result. -/
theorem ker_out (r : Fin 320000) (q : Fin 128) : W5 m c (Proc.devRef .tc main_v17_0) (ix2 r q)
    = max (addE (mulE (gNorm (normO (kH m c) (eX (kA m c)) (kW m c) (segW (kS m c)) r.val) q : EReal) (m ((c : Thread nD τ).loc main_arg7) (ix1 q)))
        (m ((c : Thread nD τ).loc main_arg8) (ix1 q))) 0 := by
  have e := congrFun (bwd_arr_out (kH m c) (eX (kA m c)) (kW m c) (segW (kS m c)) (W4 m) c (sN_contig _ _ _ _ _ _ _ _ _ hp) (mid_h m c hp) (mid_e m c hp)
    (mid_P m c hp) (mid_w m c hp) (mid_s m c) (fun r _ => segW_ne _ (sN_lt _ _ _ _ _ _ _ _ _ hp) _ (by decide) r) mgE
    (fun a => m ((c : Thread nD τ).loc main_arg7) (ix1 a)) (fun a => m ((c : Thread nD τ).loc main_arg8) (ix1 a)) (mid_mg m c) (mid_gg m c) (mid_gb m c)) (ix2 r q)
  have n := funext fun q => row_norm (kH m c) (eX (kA m c)) (kW m c) (segW (kS m c)) (fun _ _ => Real.exp_pos _) (wN_nonneg _ _ _ _ _ _ _ _ _ hp) r.val r.isLt q
  refine e.trans ((congrArg (fun o => rowOut mgE (fun a => m ((c : Thread nD τ).loc main_arg7) (ix1 a)) (fun a => m ((c : Thread nD τ).loc main_arg8) (ix1 a)) o q) n).trans ?_)
  exact row_out _ _ _ q

include hp in
/-- The kernel's second result. -/
theorem ker_ra (r : Fin 320000) : W5 m c (Proc.devRef .tc main_v17_1) (ix2 r 0) = (wtA (eX (kA m c)) (kW m c) (segW (kS m c)) r.val : EReal) :=
  (congrFun (bwd_arr_ra (kH m c) (eX (kA m c)) (kW m c) (segW (kS m c)) (W4 m) c (sN_contig _ _ _ _ _ _ _ _ _ hp) (mid_h m c hp) (mid_e m c hp)
    (mid_P m c hp) (mid_w m c hp) (mid_s m c) (fun r _ => segW_ne _ (sN_lt _ _ _ _ _ _ _ _ _ hp) _ (by decide) r)) (ix2 r 0)).trans
    (row_wt (kH m c) (eX (kA m c)) (kW m c) (segW (kS m c)) (fun _ _ => Real.exp_pos _) r.val r.isLt)

end Cert.Val

end
-- ==== Proof.Val.RefNorm.lean ====
/- The reference's features normalised over their segments, read at their rows. -/
module

public import proofs.«01_k».proof.Proof.Val.RefWt

@[expose] public section

set_option maxRecDepth 16384

noncomputable section

namespace Cert.Val

open Cert.ReferenceIdeal Cert.ReferenceIdeal.Gen Cert.ReferenceIdeal.Value
open Idealize.ShloMosaic Idealize.ShloMosaic.TcCoe

/-- Member `k` of group `g`. -/
def gix (g : Fin 32) (k : Fin 4) : Fin 128 := ⟨4 * g.val + k.val, by omega⟩

section
variable (hR : ℕ → Fin 128 → ℝ) (aR wR : ℕ → ℝ) (sn : ℕ → ℕ) (hsn : ∀ r, sn r < 10000)
variable (V : Valuation τ sig (Elt Ideal))
variable (Hh : ∀ (r : Fin 320000) (q : Fin 128),
  addE (∑ k : Fin 128, mulE (V (Proc.devRef .tc main_arg0) (ix2 r k)) (V (Proc.devRef .tc main_arg3) (ix2 q k))) (V (Proc.devRef .tc main_arg4) (ix1 q)) = (hR r.val q : EReal))
variable (Ha : ∀ r : Fin 320000,
  addE (∑ k : Fin 128, mulE (hR r.val k : EReal) (V (Proc.devRef .tc main_arg5) (ix2 0 k))) (V (Proc.devRef .tc main_arg6) (ix1 0)) = (aR r.val : EReal))
variable (Hw : ∀ r : Fin 320000, V (Proc.devRef .tc main_arg2) (ix1 r) = (wR r.val : EReal))
variable (Hs : ∀ r : Fin 320000, V (Proc.devRef .tc main_arg1) (ix1 r) = BitVec.ofNat 32 (sn r.val))

variable (hw : ∀ r < 320000, 0 ≤ wR r)

/-- The square roots of a table's entries and the printed 1e-3. -/
def rStd (t : FVec Ideal S10000x128 .f32) : FVec Ideal S10000x128 .f32 :=
  Host.sqrt (addf t (broadcastInDim S10000x128 ![] bcast_S_S10000x128 (constant S_ .f32 0x3A83126F#32)))

theorem rStd_apply (t : FVec Ideal S10000x128 .f32) (s : Fin 10000) (q : Fin 128) (v : ℝ) (hv : 0 ≤ v) (h : t (ix2 s q) = (v : EReal)) :
    rStd t (ix2 s q) = (Real.sqrt (v + kapR) : EReal) := by
  have e : rStd t (ix2 s q) = Ideal.sqrt (addE (t (ix2 s q)) (Ideal.ofBits FTy.f32 0x3A83126F#32)) := by
    pointwise [rStd]
  rw [e, h, kap_eq]
  exact (congrArg Ideal.sqrt (EReal.coe_add v kapR).symm).trans (sqrt_real _ (add_nonneg hv kapR_pos.le))

/-- The features times the weights. -/
def rHW : FVec Ideal S320000x128 .f32 := mulf (res_main_v4 V) (broadcastInDim S320000x128 ![0, 1] bcast_S320000x1_S320000x128_0_1 (res_main_v56 V))

/-- The weights times the squared deviations. -/
def rWD : FVec Ideal S320000x128 .f32 :=
  mulf (broadcastInDim S320000x128 ![0, 1] bcast_S320000x1_S320000x128_0_1 (res_main_v56 V)) (mulf (res_main_v69 V) (res_main_v69 V))

theorem v69_eq : res_main_v69 V = subf (res_main_v4 V) (rGet128 (V (Proc.devRef .tc main_arg1)) (rSum128 (V (Proc.devRef .tc main_arg1)) (rHW V))) := rfl

theorem v87_eq : res_main_v87 V = shapeCast _ (Host.divf (res_main_v69 V) (rGet128 (V (Proc.devRef .tc main_arg1))
    (rStd (rSum128 (V (Proc.devRef .tc main_arg1)) (rWD V))))) shapeCasts_S320000x128_S320000x32x4 := rfl

include hsn Hh Ha Hw Hs in
theorem rHW_apply (r : Fin 320000) (q : Fin 128) : rHW V (ix2 r q) = ((hR r.val q * wtA (eX aR) wR (segW sn) r.val : ℝ) : EReal) := by
  have h4 := v4_apply hR V Hh r q
  have h56 := v56_apply hR aR wR sn hsn V Hh Ha Hw Hs r
  unfold rHW
  generalize res_main_v4 V = G at h4 ⊢
  generalize res_main_v56 V = G' at h56 ⊢
  pointwise []
  rw [h4, h56]
  exact (EReal.coe_mul _ _).symm

include hsn Hh Ha Hw Hs in
/-- The features less their segment's mean. -/
theorem v69_apply (r : Fin 320000) (q : Fin 128) :
    res_main_v69 V (ix2 r q) = ((hR r.val q - meanM hR (eX aR) wR (segW sn) r.val q : ℝ) : EReal) := by
  have h4 := v4_apply hR V Hh r q
  have hg := (rGet128_apply _ sn hsn Hs (rSum128 _ (rHW V)) r q).trans
    (rSum128_apply _ sn hsn Hs (rHW V) q (fun j => hR j q * wtA (eX aR) wR (segW sn) j) (fun i => rHW_apply hR aR wR sn hsn V Hh Ha Hw Hs i q) r.val)
  rw [v69_eq]
  generalize res_main_v4 V = G at h4 ⊢
  generalize rGet128 _ _ = G' at hg ⊢
  pointwise []
  rw [h4, hg]
  exact (EReal.coe_sub _ _).symm

include hsn Hh Ha Hw Hs in
theorem rWD_apply (r : Fin 320000) (q : Fin 128) : rWD V (ix2 r q) = ((wtA (eX aR) wR (segW sn) r.val
    * ((hR r.val q - meanM hR (eX aR) wR (segW sn) r.val q) * (hR r.val q - meanM hR (eX aR) wR (segW sn) r.val q)) : ℝ) : EReal) := by
  have h69 := v69_apply hR aR wR sn hsn V Hh Ha Hw Hs r q
  have h56 := v56_apply hR aR wR sn hsn V Hh Ha Hw Hs r
  unfold rWD
  generalize res_main_v69 V = G at h69 ⊢
  generalize res_main_v56 V = G' at h56 ⊢
  pointwise []
  rw [h69, h56]
  rw [EReal.coe_mul, EReal.coe_mul]

include hsn Hh Ha Hw Hs hw in
/-- The features normalised over their segment, in groups of four. -/
theorem v87_apply (r : Fin 320000) (g : Fin 32) (k : Fin 4) :
    res_main_v87 V (ix3 r g k) = (normO hR (eX aR) wR (segW sn) r.val (gix g k) : EReal) := by
  have hv := varV_nonneg hR (eX aR) wR (segW sn) (fun _ _ => Real.exp_pos _) hw r.val
  have h69 := v69_apply hR aR wR sn hsn V Hh Ha Hw Hs r
  have hg := fun q => (rGet128_apply _ sn hsn Hs (rStd (rSum128 _ (rWD V))) r q).trans
    (rStd_apply _ _ q (varV hR (eX aR) wR (segW sn) r.val q) (hv q) (rSum128_apply _ sn hsn Hs (rWD V) q
      (fun j => wtA (eX aR) wR (segW sn) j * ((hR j q - meanM hR (eX aR) wR (segW sn) j q) * (hR j q - meanM hR (eX aR) wR (segW sn) j q)))
      (fun i => rWD_apply hR aR wR sn hsn V Hh Ha Hw Hs i q) r.val))
  rw [v87_eq]
  generalize res_main_v69 V = G at h69 ⊢
  generalize rGet128 _ _ = G' at hg ⊢
  have e : shapeCast S320000x32x4 (Host.divf (F := Ideal) (φ := .f32) G G') shapeCasts_S320000x128_S320000x32x4 (ix3 r g k)
      = Ideal.div (G (ix2 r ⟨g.val * 4 + k.val, by omega⟩)) (G' (ix2 r ⟨g.val * 4 + k.val, by omega⟩)) := by
    pointwise []
  have e2 : (⟨g.val * 4 + k.val, by omega⟩ : Fin 128) = gix g k := Fin.ext (congrArg (· + k.val) (Nat.mul_comm _ _))
  rw [e2] at e
  refine Eq.trans e ?_
  rw [h69, hg, div_real _ _ (Real.sqrt_pos.2 (add_pos_of_nonneg_of_pos (hv _) kapR_pos)).ne']
  rfl

end

end Cert.Val

end
-- ==== Proof.Val.RefOut.lean ====
/- The reference's first result, from the features normalised over their segments. -/
module

public import proofs.«01_k».proof.Proof.Val.RefNorm

@[expose] public section

set_option maxRecDepth 16384

noncomputable section

namespace Cert.Val

open Cert.ReferenceIdeal Cert.ReferenceIdeal.Gen Cert.ReferenceIdeal.Value
open Idealize.ShloMosaic Idealize.ShloMosaic.TcCoe

/-- The groups' means. -/
def rMean (x : FVec Ideal S320000x32x4 .f32) : FVec Ideal S320000x32x1 .f32 :=
  Host.divf (broadcastInDim S320000x32x1 ![0, 1] bcast_S320000x32_S320000x32x1_0_1 (Host.reduceAdd x (constant S_ .f32 0x00000000#32) reducesTo_S320000x32x4_S320000x32_d2 h_S_))
    (broadcastInDim S320000x32x1 ![] bcast_S_S320000x32x1 (constant S_ .f32 0x40800000#32))

/-- The groups' deviations from their means. -/
def rDev (x : FVec Ideal S320000x32x4 .f32) : FVec Ideal S320000x32x4 .f32 :=
  subf x (broadcastInDim S320000x32x4 ![0, 1, 2] bcast_S320000x32x1_S320000x32x4_0_1_2 (rMean x))

/-- The number of degrees of freedom: 4 less 0. -/
def rDof : FVec Ideal S_ .f32 := subf (constant S_ .f32 0x40800000#32) (sitofp .f32 (constantI S_ 32 0#32))

/-- The groups' variances. -/
def rVar (d : FVec Ideal S320000x32x4 .f32) : FVec Ideal S320000x32x1 .f32 :=
  select (broadcastInDim S320000x32x1 ![] bcast_S_S320000x32x1 (cmpf .ogt rDof (constant S_ .f32 0x00000000#32)))
    (Host.divf (broadcastInDim S320000x32x1 ![0, 1] bcast_S320000x32_S320000x32x1_0_1 (Host.reduceAdd (mulf d d) (constant S_ .f32 0x00000000#32) reducesTo_S320000x32x4_S320000x32_d2 h_S_))
      (broadcastInDim S320000x32x1 ![] bcast_S_S320000x32x1 rDof))
    (broadcastInDim S320000x32x1 ![] bcast_S_S320000x32x1 (id (constant S_ .f32 0x7FC00000#32)))

/-- The groups normalised, from the deviations and the variances. -/
def rGn (d : FVec Ideal S320000x32x4 .f32) (v : FVec Ideal S320000x32x1 .f32) : FVec Ideal S320000x32x4 .f32 :=
  Host.divf d (broadcastInDim S320000x32x4 ![0, 1, 2] bcast_S320000x32x1_S320000x32x4_0_1_2
    (Host.sqrt (addf v (broadcastInDim S320000x32x1 ![] bcast_S_S320000x32x1 (constant S_ .f32 0x3727C5AC#32)))))

/-- Scaled, shifted and cut below at 0. -/
def rFinal (x : FVec Ideal S320000x32x4 .f32) (a7 a8 : FVec Ideal S128 .f32) : FVec Ideal S320000x128 .f32 :=
  maximumf (addf (mulf (shapeCast _ x shapeCasts_S320000x32x4_S320000x128)
    (broadcastInDim S320000x128 ![0, 1] bcast_S1x128_S320000x128_0_1 (broadcastInDim S1x128 ![1] bcast_S128_S1x128_1 a7)))
    (broadcastInDim S320000x128 ![0, 1] bcast_S1x128_S320000x128_0_1 (broadcastInDim S1x128 ![1] bcast_S128_S1x128_1 a8)))
    (broadcastInDim S320000x128 ![] bcast_S_S320000x128 (constant S_ .f32 0x00000000#32))

/-- The first result, from the normalised features. -/
def rOut (x : FVec Ideal S320000x32x4 .f32) (a7 a8 : FVec Ideal S128 .f32) : FVec Ideal S320000x128 .f32 :=
  rFinal (rGn (rDev x) (rVar (rDev x))) a7 a8

theorem val_out (V : Valuation τ sig (Elt Ideal)) : val3 V (Proc.devRef .tc main_v107)
    = rOut (res_main_v87 V) (V (Proc.devRef .tc main_arg7)) (V (Proc.devRef .tc main_arg8)) := by
  refine (val3_main_v107 V).trans ?_
  rfl

section
variable (o : ℕ → Fin 128 → ℝ) (x : FVec Ideal S320000x32x4 .f32)
variable (hx : ∀ (r : Fin 320000) (g : Fin 32) (k : Fin 4), x (ix3 r g k) = (o r.val (gix g k) : EReal))

/-- A group's mean, by its number. -/
def gM (o : Fin 128 → ℝ) (g : Fin 32) : ℝ := (∑ k : Fin 4, o (gix g k)) / 4
/-- A group's variance, by its number. -/
def gV (o : Fin 128 → ℝ) (g : Fin 32) : ℝ :=
  (∑ k : Fin 4, (o (gix g k) - gM o g) * (o (gix g k) - gM o g)) / 4

theorem gV_nonneg (o : Fin 128 → ℝ) (g : Fin 32) : 0 ≤ gV o g :=
  div_nonneg (Finset.sum_nonneg fun _ _ => mul_self_nonneg _) (by norm_num)

include hx in
theorem rMean_apply (r : Fin 320000) (g : Fin 32) : rMean x (ix3 r g 0) = (gM (o r.val) g : EReal) := by
  have e : rMean x (ix3 r g 0) = Ideal.div (∑ k : Fin 4, (x (ix3 r g k) : EReal)) (Ideal.ofBits FTy.f32 0x40800000#32) := by
    pointwise [rMean]
  simp only [hx] at e
  rw [e, four_eq, ← coe_sum, div_real _ _ (by norm_num)]
  rfl

include hx in
theorem rDev_apply (r : Fin 320000) (g : Fin 32) (k : Fin 4) : rDev x (ix3 r g k) = ((o r.val (gix g k) - gM (o r.val) g : ℝ) : EReal) := by
  have h := rMean_apply o x hx r g
  unfold rDev
  generalize rMean x = G at h ⊢
  pointwise []
  rw [h, hx]
  exact (EReal.coe_sub _ _).symm

theorem rDof_apply : rDof ix0 = ((4 : ℝ) : EReal) := by
  rw [← four_eq]
  pointwise [rDof]
  have h : FloatOps.sitofp (F := Ideal) FTy.f32 0#32 = (0 : EReal) := by
    show (((0#32).toInt : ℝ) : EReal) = 0
    simp
  exact (congrArg (fun z : EReal => _ - z) h).trans (sub_zero _)

theorem rVar_apply (d : FVec Ideal S320000x32x4 .f32) (r : Fin 320000) (g : Fin 32) (v : Fin 4 → ℝ) (hd : ∀ k, d (ix3 r g k) = (v k : EReal)) :
    rVar d (ix3 r g 0) = (((∑ k : Fin 4, v k * v k) / 4 : ℝ) : EReal) := by
  have h := rDof_apply
  unfold rVar
  generalize rDof = G at h ⊢
  pointwise []
  simp only [h, hd]
  rw [if_pos (by norm_num)]
  simp only [← EReal.coe_mul]
  rw [← coe_sum, div_real _ _ (by norm_num)]

theorem rGn_apply (d : FVec Ideal S320000x32x4 .f32) (v : FVec Ideal S320000x32x1 .f32) (r : Fin 320000) (g : Fin 32) (k : Fin 4) (a b : ℝ) (hb : 0 ≤ b)
    (hd : d (ix3 r g k) = (a : EReal)) (hv : v (ix3 r g 0) = (b : EReal)) : rGn d v (ix3 r g k) = ((a / Real.sqrt (b + epsR) : ℝ) : EReal) := by
  have e : rGn d v (ix3 r g k) = Ideal.div (d (ix3 r g k)) (Ideal.sqrt (addE (v (ix3 r g 0)) (Ideal.ofBits FTy.f32 0x3727C5AC#32))) := by
    pointwise [rGn]
  have h2 : addE (b : EReal) (epsR : EReal) = ((b + epsR : ℝ) : EReal) := (EReal.coe_add _ _).symm
  rw [e, hd, hv, eps_eq, h2, sqrt_real _ (add_nonneg hb epsR_pos.le),
    div_real _ _ (Real.sqrt_pos.2 (add_pos_of_nonneg_of_pos hb epsR_pos)).ne']

theorem rFinal_apply (y : FVec Ideal S320000x32x4 .f32) (a7 a8 : FVec Ideal S128 .f32) (r : Fin 320000) (q : Fin 128) :
    rFinal y a7 a8 (ix2 r q) = max (addE (mulE (y (ix3 r ⟨q.val / 4, by omega⟩ ⟨q.val % 4, by omega⟩)) (a7 (ix1 q))) (a8 (ix1 q))) 0 := by
  pointwise [rFinal]

include hx in
/-- The first result at a row and a feature. -/
theorem rOut_apply (a7 a8 : FVec Ideal S128 .f32) (r : Fin 320000) (q : Fin 128) :
    rOut x a7 a8 (ix2 r q) = max (addE (mulE (gNorm (o r.val) q : EReal) (a7 (ix1 q))) (a8 (ix1 q))) 0 := by
  unfold rOut
  have hd := rDev_apply o x hx r ⟨q.val / 4, by omega⟩
  have hv := rVar_apply (rDev x) r ⟨q.val / 4, by omega⟩ _ hd
  have hn := rGn_apply (rDev x) (rVar (rDev x)) r ⟨q.val / 4, by omega⟩ ⟨q.val % 4, by omega⟩ _ _ (gV_nonneg (o r.val) ⟨q.val / 4, by omega⟩) (hd _) hv
  rw [rFinal_apply, hn]
  have e : gix ⟨q.val / 4, by omega⟩ ⟨q.val % 4, by omega⟩ = q := Fin.ext (by show 4 * (q.val / 4) + q.val % 4 = q.val; omega)
  have e2 : (o r.val (gix ⟨q.val / 4, by omega⟩ ⟨q.val % 4, by omega⟩) - gM (o r.val) ⟨q.val / 4, by omega⟩) / Real.sqrt (gV (o r.val) ⟨q.val / 4, by omega⟩ + epsR)
      = gNorm (o r.val) q := by
    rw [e]
    rfl
  rw [e2]

end

end Cert.Val

end
-- ==== Proof.Val.RefAll.lean ====
/- The reference's two results as functions of the argument arrays. -/
module

public import proofs.«01_k».proof.Proof.Val.RefOut
public import proofs.«01_k».proof.Proof.Val.Data

@[expose] public section

set_option maxRecDepth 16384

noncomputable section

namespace Cert.Val

open Cert.ReferenceIdeal Cert.ReferenceIdeal.Gen Cert.ReferenceIdeal.Value
open Idealize.ShloMosaic Idealize.ShloMosaic.TcCoe

section
variable (a0 : FVec Ideal S320000x128 .f32) (a1 : IVec S320000 32) (a2 : FVec Ideal S320000 .f32) (a3 : FVec Ideal S128x128 .f32)
  (a4 : FVec Ideal S128 .f32) (a5 : FVec Ideal S1x128 .f32) (a6 : FVec Ideal S1 .f32) (a7 a8 : FVec Ideal S128 .f32)
variable (hp : PreA a0 a1 a2 a3 a4 a5 a6 a7 a8)
variable (V : Valuation τ sig (Elt Ideal))
variable (e0 : V (Proc.devRef .tc main_arg0) = a0) (e1 : V (Proc.devRef .tc main_arg1) = a1) (e2 : V (Proc.devRef .tc main_arg2) = a2)
  (e3 : V (Proc.devRef .tc main_arg3) = a3) (e4 : V (Proc.devRef .tc main_arg4) = a4) (e5 : V (Proc.devRef .tc main_arg5) = a5)
  (e6 : V (Proc.devRef .tc main_arg6) = a6) (e7 : V (Proc.devRef .tc main_arg7) = a7) (e8 : V (Proc.devRef .tc main_arg8) = a8)

include hp e0 e1 e2 e3 e4 e5 e6 in
/-- The reference's second result. -/
theorem ref_ra (r : Fin 320000) : res_main_v56 V (ix2 r 0) = (wtA (eX (aN a0 a3 a4 a5 a6)) (wN a2) (segW (sN a1)) r.val : EReal) := by
  subst e0 e1 e2 e3 e4 e5 e6
  exact v56_apply _ _ _ _ (sN_lt _ _ _ _ _ _ _ _ _ hp) V (hN_eq _ _ _ _ _ _ _ _ _ hp) (fun r => aN_eq _ _ _ _ _ _ _ _ _ hp r.val)
    (wN_eq _ _ _ _ _ _ _ _ _ hp) (sN_eq _) r

include hp e0 e1 e2 e3 e4 e5 e6 e7 e8 in
/-- The reference's first result. -/
theorem ref_out (r : Fin 320000) (q : Fin 128) : rOut (res_main_v87 V) (V (Proc.devRef .tc main_arg7)) (V (Proc.devRef .tc main_arg8)) (ix2 r q)
    = max (addE (mulE (gNorm (normO (hN a0 a3 a4) (eX (aN a0 a3 a4 a5 a6)) (wN a2) (segW (sN a1)) r.val) q : EReal) (a7 (ix1 q))) (a8 (ix1 q))) 0 := by
  subst e0 e1 e2 e3 e4 e5 e6 e7 e8
  exact rOut_apply _ _ (v87_apply _ _ _ _ (sN_lt _ _ _ _ _ _ _ _ _ hp) V (hN_eq _ _ _ _ _ _ _ _ _ hp) (fun r => aN_eq _ _ _ _ _ _ _ _ _ hp r.val)
    (wN_eq _ _ _ _ _ _ _ _ _ hp) (sN_eq _) (wN_nonneg _ _ _ _ _ _ _ _ _ hp)) _ _ r q

end

end Cert.Val

end
-- ==== Proof.lean ====
/- The proof of the certificate's claim: the frames of the three programs, the agreement of the two readings of the kernel, and
   the algebraic claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Val.KerOut
public import proofs.«01_k».proof.Proof.Val.RefAll
public import Idealize.ShloMosaic.Adequacy
public import Idealize.ShloMosaic.Init

@[expose] public section

noncomputable section

namespace Cert.Proof

open Idealize.ShloMosaic Idealize.SL.Sem Cert.Kernel

/-- The kernel's frame, on the machine's floats. -/
theorem frame_k : Cert.quiescent_Kernel (hKernel := Cert.Kernel.Gen.facts) := fun m ρ _ => Cert.Kernel.Hand.frame m ρ

/-- The kernel's frame, on the extended reals. -/
theorem frame_ki : Cert.quiescent_KernelIdeal (hKernelIdeal := Cert.KernelIdeal.Gen.facts) := fun m ρ _ => Cert.KernelIdeal.Hand.frame m ρ

/-- The reference's frame: its run read at the arguments; it has no semaphore. -/
theorem frame_ri : Cert.quiescent_ReferenceIdeal (hReferenceIdeal := Cert.ReferenceIdeal.Gen.facts) := fun m ρ _ =>
  (θ_run (Cert.ReferenceIdeal.defs (F := Ideal)) _ _).mono (fun r h => ⟨fun c => (h c).2.2, Idealize.ShloMosaic.sem_eq_zero_of_no_sems (by decide) r.2⟩) (Cert.ReferenceIdeal.Value.run m ρ)

/-- The precondition's word on one device's argument arrays. -/
theorem pre_at (m : (ℓ : Loc Cert.KernelIdeal.nD Cert.KernelIdeal.τ Cert.KernelIdeal.sig) → Buf (Elt Ideal) ℓ) (h : Cert.Pre_KernelIdeal_sorted_finite (hPre_sorted_finite := Cert.Val.preFacts) m)
    (c : Dev Cert.KernelIdeal.nD) : Cert.Val.PreA
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := h c

/-- The kernel and the reference, of the same arguments that meet the precondition, leave the same two results. -/
theorem alg : Cert.algebraic_KernelIdeal_ReferenceIdeal_pre_sorted_finite (hKernelIdeal := Cert.KernelIdeal.Gen.facts) (hReferenceIdeal := Cert.ReferenceIdeal.Gen.facts)
    (hPre_sorted_finite := Cert.Val.preFacts) := by
  intro m g m' g' hpre hagree
  refine ⟨fun c => Cert.KernelIdeal.Hand.W5 m c (Proc.devRef .tc Cert.KernelIdeal.main_v17_0), fun c => Cert.KernelIdeal.Hand.W5 m c (Proc.devRef .tc Cert.KernelIdeal.main_v17_1), ?_, ?_⟩
  · refine (θ_run (Cert.KernelIdeal.defs (F := Ideal)) _ _).mono (fun r h c => ?_) (Cert.KernelIdeal.Hand.run m g)
    exact ⟨h.1 c Cert.KernelIdeal.main_v17_0 rfl, h.1 c Cert.KernelIdeal.main_v17_1 rfl,
      (h.1 c Cert.KernelIdeal.main_arg0 rfl).trans (Cert.KernelIdeal.Hand.W5_of m c Cert.KernelIdeal.main_arg0 (by decide) (by decide) (by decide) (by decide) (by decide)),
      (h.1 c Cert.KernelIdeal.main_arg1 rfl).trans (Cert.KernelIdeal.Hand.W5_of m c Cert.KernelIdeal.main_arg1 (by decide) (by decide) (by decide) (by decide) (by decide)),
      (h.1 c Cert.KernelIdeal.main_arg2 rfl).trans (Cert.KernelIdeal.Hand.W5_of m c Cert.KernelIdeal.main_arg2 (by decide) (by decide) (by decide) (by decide) (by decide)),
      (h.1 c Cert.KernelIdeal.main_arg3 rfl).trans (Cert.KernelIdeal.Hand.W5_of m c Cert.KernelIdeal.main_arg3 (by decide) (by decide) (by decide) (by decide) (by decide)),
      (h.1 c Cert.KernelIdeal.main_arg4 rfl).trans (Cert.KernelIdeal.Hand.W5_of m c Cert.KernelIdeal.main_arg4 (by decide) (by decide) (by decide) (by decide) (by decide)),
      (h.1 c Cert.KernelIdeal.main_arg5 rfl).trans (Cert.KernelIdeal.Hand.W5_of m c Cert.KernelIdeal.main_arg5 (by decide) (by decide) (by decide) (by decide) (by decide)),
      (h.1 c Cert.KernelIdeal.main_arg6 rfl).trans (Cert.KernelIdeal.Hand.W5_of m c Cert.KernelIdeal.main_arg6 (by decide) (by decide) (by decide) (by decide) (by decide)),
      (h.1 c Cert.KernelIdeal.main_arg7 rfl).trans (Cert.KernelIdeal.Hand.W5_of m c Cert.KernelIdeal.main_arg7 (by decide) (by decide) (by decide) (by decide) (by decide)),
      (h.1 c Cert.KernelIdeal.main_arg8 rfl).trans (Cert.KernelIdeal.Hand.W5_of m c Cert.KernelIdeal.main_arg8 (by decide) (by decide) (by decide) (by decide) (by decide))⟩
  · refine (θ_run (Cert.ReferenceIdeal.defs (F := Ideal)) _ _).mono (fun r h c => ?_) (Cert.ReferenceIdeal.Value.run m' g')
    obtain ⟨e0, e1, e2, e3, e4, e5, e6, e7, e8⟩ := hagree c
    have hp := pre_at m hpre c
    refine ⟨(h c).1.trans ?_, (h c).2.1.trans ?_, (h c).2.2⟩
    · funext y
      rw [eq_ix2 y]
      exact (Cert.Val.ref_out _ _ _ _ _ _ _ _ _ hp (StableHlo.launchContents m' c) e0 e1 e2 e3 e4 e5 e6 e7 e8 (y 0) (y 1)).trans
        (Cert.Val.ker_out m c hp (y 0) (y 1)).symm
    · funext y
      have hy : y = ix2 (n0 := 320000) (n1 := 1) (y 0) 0 := (eq_ix2 y).trans (congrArg (ix2 (n0 := 320000) (n1 := 1) (y 0)) (Subsingleton.elim _ _))
      rw [hy]
      exact (Cert.Val.ref_ra _ _ _ _ _ _ _ _ _ hp (StableHlo.launchContents m' c) e0 e1 e2 e3 e4 e5 e6 (y 0)).trans
        (Cert.Val.ker_ra m c hp (y 0)).symm

/-- The certificate's claim. -/
theorem claim : Cert.Claim := ⟨Cert.Kernel.Gen.facts, Cert.KernelIdeal.Gen.facts, Cert.ReferenceIdeal.Gen.facts, Cert.Val.preFacts,
  frame_k, frame_ki, fun m ρ _ => frame_ki m ρ trivial, frame_ri, fun m ρ _ => frame_ri m ρ trivial, trivial, alg⟩

end Cert.Proof

end
